-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_allowed [hPre_finite_and_allowed : Cert.Pre_finite_and_allowed.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.2.2.1 = (fun _ => 1#1)
    ∧ (Cert.Pre_finite_and_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_allowed [hPre_finite_and_allowed : Cert.Pre_finite_and_allowed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.2.2.1 = (fun _ => 1#1)
    ∧ (Cert.Pre_finite_and_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite_and_allowed [hKernelIdeal : Cert.KernelIdeal.Facts] [hPre_finite_and_allowed : Cert.Pre_finite_and_allowed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_allowed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite_and_allowed [hReferenceIdeal : Cert.ReferenceIdeal.Facts] [hPre_finite_and_allowed : Cert.Pre_finite_and_allowed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_allowed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite_and_allowed [hKernelIdeal : Cert.KernelIdeal.Facts] [hReferenceIdeal : Cert.ReferenceIdeal.Facts] [hPre_finite_and_allowed : Cert.Pre_finite_and_allowed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_allowed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_and_allowed : Cert.Pre_finite_and_allowed.Facts),
    quiescent_Kernel (hKernel := hKernel)
    ∧ quiescent_KernelIdeal (hKernelIdeal := hKernelIdeal)
    ∧ quiescent_KernelIdeal_pre_finite_and_allowed (hKernelIdeal := hKernelIdeal) (hPre_finite_and_allowed := hPre_finite_and_allowed)
    ∧ quiescent_ReferenceIdeal (hReferenceIdeal := hReferenceIdeal)
    ∧ quiescent_ReferenceIdeal_pre_finite_and_allowed (hReferenceIdeal := hReferenceIdeal) (hPre_finite_and_allowed := hPre_finite_and_allowed)
    ∧ preserves_Kernel_KernelIdeal
    ∧ algebraic_KernelIdeal_ReferenceIdeal_pre_finite_and_allowed (hKernelIdeal := hKernelIdeal) (hReferenceIdeal := hReferenceIdeal) (hPre_finite_and_allowed := hPre_finite_and_allowed)
-- ==== Pre_finite_and_allowed.lean ====
abbrev S32x128 : Shape := ⟨2, ![32, 128]⟩
abbrev S2048x128 : Shape := ⟨2, ![2048, 128]⟩
abbrev S32x2048 : Shape := ⟨2, ![32, 2048]⟩
abbrev S_ : Shape := ⟨0, ![]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x1 : Shape := ⟨2, ![256, 1]⟩
abbrev S1 : Shape := ⟨1, ![1]⟩

class Facts : Prop where
  bcast_S_S32x128 : S_.BroadcastsInDim S32x128 (![] : Fin 0 → Fin S32x128.rank)
  bcast_S_S2048x128 : S_.BroadcastsInDim S2048x128 (![] : Fin 0 → Fin S2048x128.rank)
  bcast_S_S128x128 : S_.BroadcastsInDim S128x128 (![] : Fin 0 → Fin S128x128.rank)
  bcast_S_S128 : S_.BroadcastsInDim S128 (![] : Fin 0 → Fin S128.rank)
  bcast_S_S256x256 : S_.BroadcastsInDim S256x256 (![] : Fin 0 → Fin S256x256.rank)
  bcast_S_S256 : S_.BroadcastsInDim S256 (![] : Fin 0 → Fin S256.rank)
  bcast_S_S256x1 : S_.BroadcastsInDim S256x1 (![] : Fin 0 → Fin S256x1.rank)
  bcast_S_S1 : S_.BroadcastsInDim S1 (![] : Fin 0 → Fin S1.rank)
  reducesTo_S32x2048_S_d0_1 : S32x2048.ReducesTo [0, 1] S_
  h_S_ : 0 < S_.numel

variable [Facts]

def fn_part2 {F : FTy → Type} [FloatOps F] (main_arg2 : IVec S32x2048 1) (main_arg14 : FVec F S256x256 .f32) (main_arg15 : FVec F S256 .f32) (main_arg16 : FVec F S256x1 .f32) (main_arg17 : FVec F S1 .f32) (main_v2 : IVec S32x128 1) (main_v5 : IVec S2048x128 1) (main_v8 : IVec S128x128 1) (main_v11 : IVec S128 1) (main_v14 : IVec S128x128 1) (main_v17 : IVec S128 1) (main_v20 : IVec S128x128 1) (main_v23 : IVec S128 1) (main_v26 : IVec S128x128 1) (main_v29 : IVec S128 1) (main_v32 : IVec S256x256 1) (main_v35 : IVec S256 1) : IVec S_ 1 × IVec S32x128 1 × IVec S2048x128 1 × IVec S128x128 1 × IVec S128 1 × IVec S128x128 1 × IVec S128 1 × IVec S128x128 1 × IVec S128 1 × IVec S128x128 1 × IVec S128 1 × IVec S256x256 1 × IVec S256 1 × IVec S256x256 1 × IVec S256 1 × IVec S256x1 1 × IVec S1 1 :=
  let main_v36 : FVec F S256x256 .f32 := Host.absf main_arg14
  let main_cst_11 : FVec F S_ .f32 := constant S_ .f32 0x7F800000#32
  let main_v37 : FVec F S256x256 .f32 := broadcastInDim S256x256 ![] bcast_S_S256x256 main_cst_11
  let main_v38 : IVec S256x256 1 := cmpf .olt main_v36 main_v37
  let main_v39 : FVec F S256 .f32 := Host.absf main_arg15
  let main_cst_12 : FVec F S_ .f32 := constant S_ .f32 0x7F800000#32
  let main_v40 : FVec F S256 .f32 := broadcastInDim S256 ![] bcast_S_S256 main_cst_12
  let main_v41 : IVec S256 1 := cmpf .olt main_v39 main_v40
  let main_v42 : FVec F S256x1 .f32 := Host.absf main_arg16
  let main_cst_13 : FVec F S_ .f32 := constant S_ .f32 0x7F800000#32
  let main_v43 : FVec F S256x1 .f32 := broadcastInDim S256x1 ![] bcast_S_S256x1 main_cst_13
  let main_v44 : IVec S256x1 1 := cmpf .olt main_v42 main_v43
  let main_v45 : FVec F S1 .f32 := Host.absf main_arg17
  let main_cst_14 : FVec F S_ .f32 := constant S_ .f32 0x7F800000#32
  let main_v46 : FVec F S1 .f32 := broadcastInDim S1 ![] bcast_S_S1 main_cst_14
  let main_v47 : IVec S1 1 := cmpf .olt main_v45 main_v46
  let main_c : IVec S_ 1 := constantI S_ 1 0#1
  let main_v48 : IVec S_ 1 := (fun x v => Host.reduce IntOp.ori x v reducesTo_S32x2048_S_d0_1 h_S_) main_arg2 main_c
  (main_v48, main_v2, main_v5, main_v8, main_v11, main_v14, main_v17, main_v20, main_v23, main_v26, main_v29, main_v32, main_v35, main_v38, main_v41, main_v44, main_v47)

def fn_part1 {F : FTy → Type} [FloatOps F] (main_arg2 : IVec S32x2048 1) (main_arg8 : FVec F S128x128 .f32) (main_arg9 : FVec F S128 .f32) (main_arg10 : FVec F S128x128 .f32) (main_arg11 : FVec F S128 .f32) (main_arg12 : FVec F S256x256 .f32) (main_arg13 : FVec F S256 .f32) (main_arg14 : FVec F S256x256 .f32) (main_arg15 : FVec F S256 .f32) (main_arg16 : FVec F S256x1 .f32) (main_arg17 : FVec F S1 .f32) (main_v2 : IVec S32x128 1) (main_v5 : IVec S2048x128 1) (main_v8 : IVec S128x128 1) (main_v11 : IVec S128 1) (main_v14 : IVec S128x128 1) (main_v17 : IVec S128 1) : IVec S_ 1 × IVec S32x128 1 × IVec S2048x128 1 × IVec S128x128 1 × IVec S128 1 × IVec S128x128 1 × IVec S128 1 × IVec S128x128 1 × IVec S128 1 × IVec S128x128 1 × IVec S128 1 × IVec S256x256 1 × IVec S256 1 × IVec S256x256 1 × IVec S256 1 × IVec S256x1 1 × IVec S1 1 :=
  let main_v18 : FVec F S128x128 .f32 := Host.absf main_arg8
  let main_cst_5 : FVec F S_ .f32 := constant S_ .f32 0x7F800000#32
  let main_v19 : FVec F S128x128 .f32 := broadcastInDim S128x128 ![] bcast_S_S128x128 main_cst_5
  let main_v20 : IVec S128x128 1 := cmpf .olt main_v18 main_v19
  let main_v21 : FVec F S128 .f32 := Host.absf main_arg9
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_v24 : FVec F S128x128 .f32 := Host.absf main_arg10
  let main_cst_7 : FVec F S_ .f32 := constant S_ .f32 0x7F800000#32
  let main_v25 : FVec F S128x128 .f32 := broadcastInDim S128x128 ![] bcast_S_S128x128 main_cst_7
  let main_v26 : IVec S128x128 1 := cmpf .olt main_v24 main_v25
  let main_v27 : FVec F S128 .f32 := Host.absf main_arg11
  let main_cst_8 : FVec F S_ .f32 := constant S_ .f32 0x7F800000#32
  let main_v28 : FVec F S128 .f32 := broadcastInDim S128 ![] bcast_S_S128 main_cst_8
  let main_v29 : IVec S128 1 := cmpf .olt main_v27 main_v28
  let main_v30 : FVec F S256x256 .f32 := Host.absf main_arg12
  let main_cst_9 : FVec F S_ .f32 := constant S_ .f32 0x7F800000#32
  let main_v31 : FVec F S256x256 .f32 := broadcastInDim S256x256 ![] bcast_S_S256x256 main_cst_9
  let main_v32 : IVec S256x256 1 := cmpf .olt main_v30 main_v31
  let main_v33 : FVec F S256 .f32 := Host.absf main_arg13
  let main_cst_10 : FVec F S_ .f32 := constant S_ .f32 0x7F800000#32
  let main_v34 : FVec F S256 .f32 := broadcastInDim S256 ![] bcast_S_S256 main_cst_10
  let main_v35 : IVec S256 1 := cmpf .olt main_v33 main_v34
  fn_part2 (F := F) main_arg2 main_arg14 main_arg15 main_arg16 main_arg17 main_v2 main_v5 main_v8 main_v11 main_v14 main_v17 main_v20 main_v23 main_v26 main_v29 main_v32 main_v35

def fn {F : FTy → Type} [FloatOps F] (main_arg0 : FVec F S32x128 .f32) (main_arg1 : FVec F S2048x128 .f32) (main_arg2 : IVec S32x2048 1) (main_arg3 : IVec S_ 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S256x256 .f32) (main_arg13 : FVec F S256 .f32) (main_arg14 : FVec F S256x256 .f32) (main_arg15 : FVec F S256 .f32) (main_arg16 : FVec F S256x1 .f32) (main_arg17 : FVec F S1 .f32) (main_arg18 : FVec F S256x256 .f32) (main_arg19 : FVec F S256 .f32) (main_arg20 : FVec F S256x256 .f32) (main_arg21 : FVec F S256 .f32) (main_arg22 : FVec F S256x1 .f32) (main_arg23 : FVec F S1 .f32) : IVec S_ 1 × IVec S32x128 1 × IVec S2048x128 1 × IVec S128x128 1 × IVec S128 1 × IVec S128x128 1 × IVec S128 1 × IVec S128x128 1 × IVec S128 1 × IVec S128x128 1 × IVec S128 1 × IVec S256x256 1 × IVec S256 1 × IVec S256x256 1 × IVec S256 1 × IVec S256x1 1 × IVec S1 1 :=
  let main_v0 : FVec F S32x128 .f32 := Host.absf main_arg0
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S128x128 .f32 := Host.absf main_arg4
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128x128 .f32 := Host.absf main_arg6
  let main_cst_3 : FVec F S_ .f32 := constant S_ .f32 0x7F800000#32
  let main_v13 : FVec F S128x128 .f32 := broadcastInDim S128x128 ![] bcast_S_S128x128 main_cst_3
  let main_v14 : IVec S128x128 1 := cmpf .olt main_v12 main_v13
  let main_v15 : FVec F S128 .f32 := Host.absf main_arg7
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg2 main_arg8 main_arg9 main_arg10 main_arg11 main_arg12 main_arg13 main_arg14 main_arg15 main_arg16 main_arg17 main_v2 main_v5 main_v8 main_v11 main_v14 main_v17
-- ==== Kernel.lean ====
abbrev S32x128 : Shape := ⟨2, ![32, 128]⟩
abbrev S2048x128 : Shape := ⟨2, ![2048, 128]⟩
abbrev S32x2048 : Shape := ⟨2, ![32, 2048]⟩
abbrev S_ : Shape := ⟨0, ![]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S2048x32 : Shape := ⟨2, ![2048, 32]⟩
abbrev S256x32 : Shape := ⟨2, ![256, 32]⟩
abbrev S32x32 : Shape := ⟨2, ![32, 32]⟩
abbrev S1x128 : Shape := ⟨2, ![1, 128]⟩
abbrev S128x256 : Shape := ⟨2, ![128, 256]⟩
abbrev S1x256 : Shape := ⟨2, ![1, 256]⟩
abbrev S1x1 : Shape := ⟨2, ![1, 1]⟩
abbrev S32x256 : Shape := ⟨2, ![32, 256]⟩
abbrev S2048x256 : Shape := ⟨2, ![2048, 256]⟩
abbrev S2048x1x256 : Shape := ⟨3, ![2048, 1, 256]⟩
abbrev S1x32x256 : Shape := ⟨3, ![1, 32, 256]⟩
abbrev S2048x32x256 : Shape := ⟨3, ![2048, 32, 256]⟩
abbrev S65536x256 : Shape := ⟨2, ![65536, 256]⟩
abbrev S65536x32 : Shape := ⟨2, ![65536, 32]⟩
abbrev S2048x32x32 : Shape := ⟨3, ![2048, 32, 32]⟩
abbrev S1x32x32 : Shape := ⟨3, ![1, 32, 32]⟩
abbrev S1x2048x32 : Shape := ⟨3, ![1, 2048, 32]⟩
abbrev S1x1x1 : Shape := ⟨3, ![1, 1, 1]⟩
abbrev S1x1x256 : Shape := ⟨3, ![1, 1, 256]⟩

abbrev nBuf : Space → Nat
  | .hbm => 54
  | .vmem => 24
  | .smem => 3
  | _ => 0

abbrev bufTy : (tb : Table) → Fin (tcTables nBuf tb) → BufTy
  | .hbm, ⟨0, _⟩ => ⟨S32x128, .f32⟩
  | .hbm, ⟨1, _⟩ => ⟨S2048x128, .f32⟩
  | .hbm, ⟨2, _⟩ => ⟨S32x2048, .i1⟩
  | .hbm, ⟨3, _⟩ => ⟨S_, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x1, .f32⟩
  | .hbm, ⟨17, _⟩ => ⟨S1, .f32⟩
  | .hbm, ⟨18, _⟩ => ⟨S256x256, .f32⟩
  | .hbm, ⟨19, _⟩ => ⟨S256, .f32⟩
  | .hbm, ⟨20, _⟩ => ⟨S256x256, .f32⟩
  | .hbm, ⟨21, _⟩ => ⟨S256, .f32⟩
  | .hbm, ⟨22, _⟩ => ⟨S256x1, .f32⟩
  | .hbm, ⟨23, _⟩ => ⟨S1, .f32⟩
  | .hbm, ⟨24, _⟩ => ⟨S2048x32, .i1⟩
  | .hbm, ⟨25, _⟩ => ⟨S_, .f32⟩
  | .hbm, ⟨26, _⟩ => ⟨S_, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S256x32, .f32⟩
  | .hbm, ⟨32, _⟩ => ⟨S32x32, .i32⟩
  | .hbm, ⟨33, _⟩ => ⟨S32x32, .i32⟩
  | .hbm, ⟨34, _⟩ => ⟨S_, .i32⟩
  | .hbm, ⟨35, _⟩ => ⟨S32x32, .i32⟩
  | .hbm, ⟨36, _⟩ => ⟨S32x32, .i32⟩
  | .hbm, ⟨37, _⟩ => ⟨S32x32, .i1⟩
  | .hbm, ⟨38, _⟩ => ⟨S32x32, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S128x256, .f32⟩
  | .hbm, ⟨44, _⟩ => ⟨S128x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x1, .f32⟩
  | .hbm, ⟨51, _⟩ => ⟨S1x1, .i32⟩
  | .hbm, ⟨52, _⟩ => ⟨S1x1, .f32⟩
  | .hbm, ⟨53, _⟩ => ⟨S1x1, .f32⟩
  | .local _ .vmem, ⟨0, _⟩ => ⟨S32x128, .f32⟩
  | .local _ .vmem, ⟨1, _⟩ => ⟨S2048x128, .f32⟩
  | .local _ .vmem, ⟨2, _⟩ => ⟨S2048x32, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x256, .f32⟩
  | .local _ .vmem, ⟨12, _⟩ => ⟨S128x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S256x32, .f32⟩
  | .local _ .vmem, ⟨17, _⟩ => ⟨S32x32, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S1x256, .f32⟩
  | .local _ .vmem, ⟨23, _⟩ => ⟨S1x1, .f32⟩
  | .local _ .smem, ⟨0, _⟩ => ⟨S1x1, .i32⟩
  | .local _ .smem, ⟨1, _⟩ => ⟨S1x1, .f32⟩
  | .local _ .smem, ⟨2, _⟩ => ⟨S1x1, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_cst : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22_0 : Ref sig .tc := ⟨.hbm, 51, rfl⟩
abbrev main_v22_1 : Ref sig .tc := ⟨.hbm, 52, rfl⟩
abbrev main_v22_2 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.smem, 0, rfl⟩
abbrev cc0_stg25_0 : Ref sig .tc := ⟨.smem, 1, rfl⟩
abbrev cc0_stg26_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .smem S1x1 .i32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .smem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .smem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== KernelIdeal.lean ====
variable {F : FTy → Type} [FloatOps F] [Named F]
def κ : String → Option EReal := fun
  | "masked" => some ⊥
  | _ => none
-- ==== ReferenceIdeal.lean ====
abbrev S32x128 : Shape := ⟨2, ![32, 128]⟩
abbrev S2048x128 : Shape := ⟨2, ![2048, 128]⟩
abbrev S32x2048 : Shape := ⟨2, ![32, 2048]⟩
abbrev S_ : Shape := ⟨0, ![]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x128 : Shape := ⟨2, ![1, 128]⟩
abbrev S2048x1x128 : Shape := ⟨3, ![2048, 1, 128]⟩
abbrev S2048x32x128 : Shape := ⟨3, ![2048, 32, 128]⟩
abbrev S1x32x128 : Shape := ⟨3, ![1, 32, 128]⟩
abbrev S2048x32x256 : Shape := ⟨3, ![2048, 32, 256]⟩
abbrev S1x1x256 : Shape := ⟨3, ![1, 1, 256]⟩
abbrev S2048x32x1 : Shape := ⟨3, ![2048, 32, 1]⟩
abbrev S1x1x1 : Shape := ⟨3, ![1, 1, 1]⟩
abbrev S65536 : Shape := ⟨1, ![65536]⟩
abbrev S2048x32 : Shape := ⟨2, ![2048, 32]⟩
abbrev S1x1 : Shape := ⟨2, ![1, 1]⟩

abbrev nBuf : Space → Nat
  | .hbm => 231
  | .vmem => 0
  | .smem => 0
  | _ => 0

abbrev hbmTy0_0 (i : Nat) : BufTy := match i % 128 with
  | 0 => ⟨S32x128, .f32⟩
  | 1 => ⟨S2048x128, .f32⟩
  | 2 => ⟨S32x2048, .i1⟩
  | 3 => ⟨S_, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S256x256, .f32⟩
  | 13 => ⟨S256, .f32⟩
  | 14 => ⟨S256x256, .f32⟩
  | 15 => ⟨S256, .f32⟩
  | 16 => ⟨S256x1, .f32⟩
  | 17 => ⟨S1, .f32⟩
  | 18 => ⟨S256x256, .f32⟩
  | 19 => ⟨S256, .f32⟩
  | 20 => ⟨S256x256, .f32⟩
  | 21 => ⟨S256, .f32⟩
  | 22 => ⟨S256x1, .f32⟩
  | 23 => ⟨S1, .f32⟩
  | 24 => ⟨S32x128, .f32⟩
  | 25 => ⟨S1x128, .f32⟩
  | 26 => ⟨S32x128, .f32⟩
  | 27 => ⟨S32x128, .f32⟩
  | 28 => ⟨S_, .f32⟩
  | 29 => ⟨S32x128, .f32⟩
  | 30 => ⟨S32x128, .i1⟩
  | 31 => ⟨S_, .f32⟩
  | 32 => ⟨S32x128, .f32⟩
  | 33 => ⟨S32x128, .i1⟩
  | 34 => ⟨S_, .f32⟩
  | 35 => ⟨S_, .f32⟩
  | 36 => ⟨S32x128, .f32⟩
  | 37 => ⟨S32x128, .f32⟩
  | 38 => ⟨S32x128, .f32⟩
  | 39 => ⟨S_, .f32⟩
  | 40 => ⟨S32x128, .f32⟩
  | 41 => ⟨S32x128, .f32⟩
  | 42 => ⟨S32x128, .f32⟩
  | 43 => ⟨S32x128, .f32⟩
  | 44 => ⟨S1x128, .f32⟩
  | 45 => ⟨S32x128, .f32⟩
  | 46 => ⟨S32x128, .f32⟩
  | 47 => ⟨S_, .f32⟩
  | 48 => ⟨S32x128, .f32⟩
  | 49 => ⟨S32x128, .i1⟩
  | 50 => ⟨S_, .f32⟩
  | 51 => ⟨S32x128, .f32⟩
  | 52 => ⟨S32x128, .i1⟩
  | 53 => ⟨S_, .f32⟩
  | 54 => ⟨S_, .f32⟩
  | 55 => ⟨S32x128, .f32⟩
  | 56 => ⟨S32x128, .f32⟩
  | 57 => ⟨S32x128, .f32⟩
  | 58 => ⟨S_, .f32⟩
  | 59 => ⟨S32x128, .f32⟩
  | 60 => ⟨S32x128, .f32⟩
  | 61 => ⟨S32x128, .f32⟩
  | 62 => ⟨S2048x128, .f32⟩
  | 63 => ⟨S1x128, .f32⟩
  | 64 => ⟨S2048x128, .f32⟩
  | 65 => ⟨S2048x128, .f32⟩
  | 66 => ⟨S_, .f32⟩
  | 67 => ⟨S2048x128, .f32⟩
  | 68 => ⟨S2048x128, .i1⟩
  | 69 => ⟨S_, .f32⟩
  | 70 => ⟨S2048x128, .f32⟩
  | 71 => ⟨S2048x128, .i1⟩
  | 72 => ⟨S_, .f32⟩
  | 73 => ⟨S_, .f32⟩
  | 74 => ⟨S2048x128, .f32⟩
  | 75 => ⟨S2048x128, .f32⟩
  | 76 => ⟨S2048x128, .f32⟩
  | 77 => ⟨S_, .f32⟩
  | 78 => ⟨S2048x128, .f32⟩
  | 79 => ⟨S2048x128, .f32⟩
  | 80 => ⟨S2048x128, .f32⟩
  | 81 => ⟨S2048x128, .f32⟩
  | 82 => ⟨S1x128, .f32⟩
  | 83 => ⟨S2048x128, .f32⟩
  | 84 => ⟨S2048x128, .f32⟩
  | 85 => ⟨S_, .f32⟩
  | 86 => ⟨S2048x128, .f32⟩
  | 87 => ⟨S2048x128, .i1⟩
  | 88 => ⟨S_, .f32⟩
  | 89 => ⟨S2048x128, .f32⟩
  | 90 => ⟨S2048x128, .i1⟩
  | 91 => ⟨S_, .f32⟩
  | 92 => ⟨S_, .f32⟩
  | 93 => ⟨S2048x128, .f32⟩
  | 94 => ⟨S2048x128, .f32⟩
  | 95 => ⟨S2048x128, .f32⟩
  | 96 => ⟨S_, .f32⟩
  | 97 => ⟨S2048x128, .f32⟩
  | 98 => ⟨S2048x128, .f32⟩
  | 99 => ⟨S2048x128, .f32⟩
  | 100 => ⟨S_, .f32⟩
  | 101 => ⟨S128, .f32⟩
  | 102 => ⟨S_, .f32⟩
  | 103 => ⟨S128, .f32⟩
  | 104 => ⟨S128, .f32⟩
  | 105 => ⟨S_, .f32⟩
  | 106 => ⟨S128, .f32⟩
  | 107 => ⟨S_, .f32⟩
  | 108 => ⟨S128, .f32⟩
  | 109 => ⟨S128, .f32⟩
  | 110 => ⟨S2048x1x128, .f32⟩
  | 111 => ⟨S2048x32x128, .f32⟩
  | 112 => ⟨S1x32x128, .f32⟩
  | 113 => ⟨S2048x32x128, .f32⟩
  | 114 => ⟨S2048x32x256, .f32⟩
  | 115 => ⟨S256, .f32⟩
  | 116 => ⟨S2048x32x256, .f32⟩
  | 117 => ⟨S1x1x256, .f32⟩
  | 118 => ⟨S2048x32x256, .f32⟩
  | 119 => ⟨S2048x32x256, .f32⟩
  | 120 => ⟨S_, .f32⟩
  | 121 => ⟨S2048x32x256, .f32⟩
  | 122 => ⟨S2048x32x256, .i1⟩
  | 123 => ⟨S_, .f32⟩
  | 124 => ⟨S2048x32x256, .f32⟩
  | 125 => ⟨S2048x32x256, .i1⟩
  | 126 => ⟨S_, .f32⟩
  | 127 => ⟨S_, .f32⟩
  | _ => ⟨S32x128, .f32⟩

abbrev hbmTy0_1 (i : Nat) : BufTy := match i % 128 with
  | 0 => ⟨S2048x32x256, .f32⟩
  | 1 => ⟨S2048x32x256, .f32⟩
  | 2 => ⟨S2048x32x256, .f32⟩
  | 3 => ⟨S_, .f32⟩
  | 4 => ⟨S2048x32x256, .f32⟩
  | 5 => ⟨S2048x32x256, .f32⟩
  | 6 => ⟨S2048x32x256, .f32⟩
  | 7 => ⟨S2048x32x256, .f32⟩
  | 8 => ⟨S1x1x256, .f32⟩
  | 9 => ⟨S2048x32x256, .f32⟩
  | 10 => ⟨S2048x32x256, .f32⟩
  | 11 => ⟨S_, .f32⟩
  | 12 => ⟨S2048x32x256, .f32⟩
  | 13 => ⟨S2048x32x256, .i1⟩
  | 14 => ⟨S_, .f32⟩
  | 15 => ⟨S2048x32x256, .f32⟩
  | 16 => ⟨S2048x32x256, .i1⟩
  | 17 => ⟨S_, .f32⟩
  | 18 => ⟨S_, .f32⟩
  | 19 => ⟨S2048x32x256, .f32⟩
  | 20 => ⟨S2048x32x256, .f32⟩
  | 21 => ⟨S2048x32x256, .f32⟩
  | 22 => ⟨S_, .f32⟩
  | 23 => ⟨S2048x32x256, .f32⟩
  | 24 => ⟨S2048x32x256, .f32⟩
  | 25 => ⟨S2048x32x256, .f32⟩
  | 26 => ⟨S2048x32x1, .f32⟩
  | 27 => ⟨S1x1x1, .f32⟩
  | 28 => ⟨S2048x32x1, .f32⟩
  | 29 => ⟨S2048x32x1, .f32⟩
  | 30 => ⟨S65536, .f32⟩
  | 31 => ⟨S2048x32, .i1⟩
  | 32 => ⟨S65536, .i1⟩
  | 33 => ⟨S_, .f32⟩
  | 34 => ⟨S_, .f32⟩
  | 35 => ⟨S65536, .f32⟩
  | 36 => ⟨S65536, .f32⟩
  | 37 => ⟨S_, .f32⟩
  | 38 => ⟨S_, .f32⟩
  | 39 => ⟨S_, .f32⟩
  | 40 => ⟨S_, .f32⟩
  | 41 => ⟨S1, .f32⟩
  | 42 => ⟨S65536, .f32⟩
  | 43 => ⟨S65536, .f32⟩
  | 44 => ⟨S65536, .f32⟩
  | 45 => ⟨S_, .f32⟩
  | 46 => ⟨S_, .f32⟩
  | 47 => ⟨S1, .f32⟩
  | 48 => ⟨S1, .f32⟩
  | 49 => ⟨S65536, .f32⟩
  | 50 => ⟨S65536, .f32⟩
  | 51 => ⟨S65536, .i32⟩
  | 52 => ⟨S_, .f32⟩
  | 53 => ⟨S_, .i32⟩
  | 54 => ⟨S_, .f32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S1, .f32⟩
  | 62 => ⟨S_, .f32⟩
  | 63 => ⟨S256, .f32⟩
  | 64 => ⟨S256, .f32⟩
  | 65 => ⟨S_, .f32⟩
  | 66 => ⟨S256, .f32⟩
  | 67 => ⟨S256, .i1⟩
  | 68 => ⟨S_, .f32⟩
  | 69 => ⟨S256, .f32⟩
  | 70 => ⟨S256, .i1⟩
  | 71 => ⟨S_, .f32⟩
  | 72 => ⟨S_, .f32⟩
  | 73 => ⟨S256, .f32⟩
  | 74 => ⟨S256, .f32⟩
  | 75 => ⟨S256, .f32⟩
  | 76 => ⟨S_, .f32⟩
  | 77 => ⟨S256, .f32⟩
  | 78 => ⟨S256, .f32⟩
  | 79 => ⟨S256, .f32⟩
  | 80 => ⟨S256, .f32⟩
  | 81 => ⟨S256, .f32⟩
  | 82 => ⟨S_, .f32⟩
  | 83 => ⟨S256, .f32⟩
  | 84 => ⟨S256, .i1⟩
  | 85 => ⟨S_, .f32⟩
  | 86 => ⟨S256, .f32⟩
  | 87 => ⟨S256, .i1⟩
  | 88 => ⟨S_, .f32⟩
  | 89 => ⟨S_, .f32⟩
  | 90 => ⟨S256, .f32⟩
  | 91 => ⟨S256, .f32⟩
  | 92 => ⟨S256, .f32⟩
  | 93 => ⟨S_, .f32⟩
  | 94 => ⟨S256, .f32⟩
  | 95 => ⟨S256, .f32⟩
  | 96 => ⟨S256, .f32⟩
  | 97 => ⟨S1, .f32⟩
  | 98 => ⟨S1, .f32⟩
  | 99 => ⟨S_, .f32⟩
  | 100 => ⟨S1x1, .i32⟩
  | 101 => ⟨S1x1, .f32⟩
  | 102 => ⟨S1x1, .f32⟩
  | _ => ⟨S32x128, .f32⟩

abbrev hbmTy (i : Nat) : BufTy := match i / 128 with
  | 0 => hbmTy0_0 i
  | 1 => hbmTy0_1 i
  | _ => ⟨S32x128, .f32⟩

abbrev bufTy : (tb : Table) → Fin (tcTables nBuf tb) → BufTy
  | .hbm, ⟨i, _⟩ => hbmTy i
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_cst_1 : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_v4 : Ref sig .tc := ⟨.hbm, 37, rfl⟩
abbrev main_call0_v5 : Ref sig .tc := ⟨.hbm, 38, rfl⟩
abbrev main_call0_cst_2 : Ref sig .tc := ⟨.hbm, 39, rfl⟩
abbrev main_call0_v6 : Ref sig .tc := ⟨.hbm, 40, rfl⟩
abbrev main_call0_v7 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_cst_1 : Ref sig .tc := ⟨.hbm, 53, rfl⟩
abbrev main_call1_call0_v0 : Ref sig .tc := ⟨.hbm, 54, rfl⟩
abbrev main_call1_call0_v1 : Ref sig .tc := ⟨.hbm, 55, rfl⟩
abbrev main_call1_v4 : Ref sig .tc := ⟨.hbm, 56, rfl⟩
abbrev main_call1_v5 : Ref sig .tc := ⟨.hbm, 57, rfl⟩
abbrev main_call1_cst_2 : Ref sig .tc := ⟨.hbm, 58, rfl⟩
abbrev main_call1_v6 : Ref sig .tc := ⟨.hbm, 59, rfl⟩
abbrev main_call1_v7 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_cst_1 : Ref sig .tc := ⟨.hbm, 72, rfl⟩
abbrev main_call2_call0_v0 : Ref sig .tc := ⟨.hbm, 73, rfl⟩
abbrev main_call2_call0_v1 : Ref sig .tc := ⟨.hbm, 74, rfl⟩
abbrev main_call2_v4 : Ref sig .tc := ⟨.hbm, 75, rfl⟩
abbrev main_call2_v5 : Ref sig .tc := ⟨.hbm, 76, rfl⟩
abbrev main_call2_cst_2 : Ref sig .tc := ⟨.hbm, 77, rfl⟩
abbrev main_call2_v6 : Ref sig .tc := ⟨.hbm, 78, rfl⟩
abbrev main_call2_v7 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_call3_cst : Ref sig .tc := ⟨.hbm, 85, rfl⟩
abbrev main_call3_v0 : Ref sig .tc := ⟨.hbm, 86, rfl⟩
abbrev main_call3_v1 : Ref sig .tc := ⟨.hbm, 87, rfl⟩
abbrev main_call3_cst_0 : Ref sig .tc := ⟨.hbm, 88, rfl⟩
abbrev main_call3_v2 : Ref sig .tc := ⟨.hbm, 89, rfl⟩
abbrev main_call3_v3 : Ref sig .tc := ⟨.hbm, 90, rfl⟩
abbrev main_call3_cst_1 : Ref sig .tc := ⟨.hbm, 91, rfl⟩
abbrev main_call3_call0_v0 : Ref sig .tc := ⟨.hbm, 92, rfl⟩
abbrev main_call3_call0_v1 : Ref sig .tc := ⟨.hbm, 93, rfl⟩
abbrev main_call3_v4 : Ref sig .tc := ⟨.hbm, 94, rfl⟩
abbrev main_call3_v5 : Ref sig .tc := ⟨.hbm, 95, rfl⟩
abbrev main_call3_cst_2 : Ref sig .tc := ⟨.hbm, 96, rfl⟩
abbrev main_call3_v6 : Ref sig .tc := ⟨.hbm, 97, rfl⟩
abbrev main_call3_v7 : Ref sig .tc := ⟨.hbm, 98, rfl⟩
abbrev main_v19 : Ref sig .tc := ⟨.hbm, 99, rfl⟩
abbrev main_cst : Ref sig .tc := ⟨.hbm, 100, rfl⟩
abbrev main_v20 : Ref sig .tc := ⟨.hbm, 101, rfl⟩
abbrev main_cst_0 : Ref sig .tc := ⟨.hbm, 102, rfl⟩
abbrev main_v21 : Ref sig .tc := ⟨.hbm, 103, rfl⟩
abbrev main_v22 : Ref sig .tc := ⟨.hbm, 104, rfl⟩
abbrev main_cst_1 : Ref sig .tc := ⟨.hbm, 105, rfl⟩
abbrev main_v23 : Ref sig .tc := ⟨.hbm, 106, rfl⟩
abbrev main_cst_2 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_call4_cst : Ref sig .tc := ⟨.hbm, 120, rfl⟩
abbrev main_call4_v0 : Ref sig .tc := ⟨.hbm, 121, rfl⟩
abbrev main_call4_v1 : Ref sig .tc := ⟨.hbm, 122, rfl⟩
abbrev main_call4_cst_0 : Ref sig .tc := ⟨.hbm, 123, rfl⟩
abbrev main_call4_v2 : Ref sig .tc := ⟨.hbm, 124, rfl⟩
abbrev main_call4_v3 : Ref sig .tc := ⟨.hbm, 125, rfl⟩
abbrev main_call4_cst_1 : Ref sig .tc := ⟨.hbm, 126, rfl⟩
abbrev main_call4_call0_v0 : Ref sig .tc := ⟨.hbm, 127, rfl⟩
abbrev main_call4_call0_v1 : Ref sig .tc := ⟨.hbm, 128, rfl⟩
abbrev main_call4_v4 : Ref sig .tc := ⟨.hbm, 129, rfl⟩
abbrev main_call4_v5 : Ref sig .tc := ⟨.hbm, 130, rfl⟩
abbrev main_call4_cst_2 : Ref sig .tc := ⟨.hbm, 131, rfl⟩
abbrev main_call4_v6 : Ref sig .tc := ⟨.hbm, 132, rfl⟩
abbrev main_call4_v7 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_call5_cst : Ref sig .tc := ⟨.hbm, 139, rfl⟩
abbrev main_call5_v0 : Ref sig .tc := ⟨.hbm, 140, rfl⟩
abbrev main_call5_v1 : Ref sig .tc := ⟨.hbm, 141, rfl⟩
abbrev main_call5_cst_0 : Ref sig .tc := ⟨.hbm, 142, rfl⟩
abbrev main_call5_v2 : Ref sig .tc := ⟨.hbm, 143, rfl⟩
abbrev main_call5_v3 : Ref sig .tc := ⟨.hbm, 144, rfl⟩
abbrev main_call5_cst_1 : Ref sig .tc := ⟨.hbm, 145, rfl⟩
abbrev main_call5_call0_v0 : Ref sig .tc := ⟨.hbm, 146, rfl⟩
abbrev main_call5_call0_v1 : Ref sig .tc := ⟨.hbm, 147, rfl⟩
abbrev main_call5_v4 : Ref sig .tc := ⟨.hbm, 148, rfl⟩
abbrev main_call5_v5 : Ref sig .tc := ⟨.hbm, 149, rfl⟩
abbrev main_call5_cst_2 : Ref sig .tc := ⟨.hbm, 150, rfl⟩
abbrev main_call5_v6 : Ref sig .tc := ⟨.hbm, 151, rfl⟩
abbrev main_call5_v7 : Ref sig .tc := ⟨.hbm, 152, rfl⟩
abbrev main_v41 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_cst_3 : Ref sig .tc := ⟨.hbm, 161, rfl⟩
abbrev main_call6_v0 : Ref sig .tc := ⟨.hbm, 162, rfl⟩
abbrev main_call6_v1 : Ref sig .tc := ⟨.hbm, 163, rfl⟩
abbrev main_v49 : Ref sig .tc := ⟨.hbm, 164, rfl⟩
abbrev main_call7_cst : Ref sig .tc := ⟨.hbm, 165, rfl⟩
abbrev main_call7_v0 : Ref sig .tc := ⟨.hbm, 166, rfl⟩
abbrev main_call7_cst_0 : Ref sig .tc := ⟨.hbm, 167, rfl⟩
abbrev main_call7_v1 : Ref sig .tc := ⟨.hbm, 168, rfl⟩
abbrev main_call7_v2 : Ref sig .tc := ⟨.hbm, 169, rfl⟩
abbrev main_call7_v3 : Ref sig .tc := ⟨.hbm, 170, rfl⟩
abbrev main_call7_v4 : Ref sig .tc := ⟨.hbm, 171, rfl⟩
abbrev main_call7_v5 : Ref sig .tc := ⟨.hbm, 172, rfl⟩
abbrev main_call7_cst_1 : Ref sig .tc := ⟨.hbm, 173, rfl⟩
abbrev main_call7_v6 : Ref sig .tc := ⟨.hbm, 174, rfl⟩
abbrev main_call7_v7 : Ref sig .tc := ⟨.hbm, 175, rfl⟩
abbrev main_call7_v8 : Ref sig .tc := ⟨.hbm, 176, rfl⟩
abbrev main_call7_v9 : Ref sig .tc := ⟨.hbm, 177, rfl⟩
abbrev main_v50 : Ref sig .tc := ⟨.hbm, 178, rfl⟩
abbrev main_call8_v0 : Ref sig .tc := ⟨.hbm, 179, rfl⟩
abbrev main_call8_cst : Ref sig .tc := ⟨.hbm, 180, rfl⟩
abbrev main_call8_c : Ref sig .tc := ⟨.hbm, 181, rfl⟩
abbrev main_call8_v1_0 : Ref sig .tc := ⟨.hbm, 182, rfl⟩
abbrev main_v51 : Ref sig .tc := ⟨.hbm, 183, rfl⟩
abbrev main_c : Ref sig .tc := ⟨.hbm, 184, rfl⟩
abbrev main_v52 : Ref sig .tc := ⟨.hbm, 185, rfl⟩
abbrev main_c_4 : Ref sig .tc := ⟨.hbm, 186, rfl⟩
abbrev main_v53 : Ref sig .tc := ⟨.hbm, 187, rfl⟩
abbrev main_v54 : Ref sig .tc := ⟨.hbm, 188, rfl⟩
abbrev main_v55 : Ref sig .tc := ⟨.hbm, 189, rfl⟩
abbrev main_v56 : Ref sig .tc := ⟨.hbm, 190, rfl⟩
abbrev main_v57 : Ref sig .tc := ⟨.hbm, 191, rfl⟩
abbrev main_v58 : Ref sig .tc := ⟨.hbm, 192, rfl⟩
abbrev main_call9_cst : Ref sig .tc := ⟨.hbm, 193, rfl⟩
abbrev main_call9_v0 : Ref sig .tc := ⟨.hbm, 194, rfl⟩
abbrev main_call9_v1 : Ref sig .tc := ⟨.hbm, 195, rfl⟩
abbrev main_call9_cst_0 : Ref sig .tc := ⟨.hbm, 196, rfl⟩
abbrev main_call9_v2 : Ref sig .tc := ⟨.hbm, 197, rfl⟩
abbrev main_call9_v3 : Ref sig .tc := ⟨.hbm, 198, rfl⟩
abbrev main_call9_cst_1 : Ref sig .tc := ⟨.hbm, 199, rfl⟩
abbrev main_call9_call0_v0 : Ref sig .tc := ⟨.hbm, 200, rfl⟩
abbrev main_call9_call0_v1 : Ref sig .tc := ⟨.hbm, 201, rfl⟩
abbrev main_call9_v4 : Ref sig .tc := ⟨.hbm, 202, rfl⟩
abbrev main_call9_v5 : Ref sig .tc := ⟨.hbm, 203, rfl⟩
abbrev main_call9_cst_2 : Ref sig .tc := ⟨.hbm, 204, rfl⟩
abbrev main_call9_v6 : Ref sig .tc := ⟨.hbm, 205, rfl⟩
abbrev main_call9_v7 : Ref sig .tc := ⟨.hbm, 206, rfl⟩
abbrev main_v59 : Ref sig .tc := ⟨.hbm, 207, rfl⟩
abbrev main_v60 : Ref sig .tc := ⟨.hbm, 208, rfl⟩
abbrev main_v61 : Ref sig .tc := ⟨.hbm, 209, rfl⟩
abbrev main_call10_cst : Ref sig .tc := ⟨.hbm, 210, rfl⟩
abbrev main_call10_v0 : Ref sig .tc := ⟨.hbm, 211, rfl⟩
abbrev main_call10_v1 : Ref sig .tc := ⟨.hbm, 212, rfl⟩
abbrev main_call10_cst_0 : Ref sig .tc := ⟨.hbm, 213, rfl⟩
abbrev main_call10_v2 : Ref sig .tc := ⟨.hbm, 214, rfl⟩
abbrev main_call10_v3 : Ref sig .tc := ⟨.hbm, 215, rfl⟩
abbrev main_call10_cst_1 : Ref sig .tc := ⟨.hbm, 216, rfl⟩
abbrev main_call10_call0_v0 : Ref sig .tc := ⟨.hbm, 217, rfl⟩
abbrev main_call10_call0_v1 : Ref sig .tc := ⟨.hbm, 218, rfl⟩
abbrev main_call10_v4 : Ref sig .tc := ⟨.hbm, 219, rfl⟩
abbrev main_call10_v5 : Ref sig .tc := ⟨.hbm, 220, rfl⟩
abbrev main_call10_cst_2 : Ref sig .tc := ⟨.hbm, 221, rfl⟩
abbrev main_call10_v6 : Ref sig .tc := ⟨.hbm, 222, rfl⟩
abbrev main_call10_v7 : Ref sig .tc := ⟨.hbm, 223, rfl⟩
abbrev main_v62 : Ref sig .tc := ⟨.hbm, 224, rfl⟩
abbrev main_v63 : Ref sig .tc := ⟨.hbm, 225, rfl⟩
abbrev main_v64 : Ref sig .tc := ⟨.hbm, 226, rfl⟩
abbrev main_v65 : Ref sig .tc := ⟨.hbm, 227, rfl⟩
abbrev main_v66 : Ref sig .tc := ⟨.hbm, 228, rfl⟩
abbrev main_v67 : Ref sig .tc := ⟨.hbm, 229, rfl⟩
abbrev main_v68 : Ref sig .tc := ⟨.hbm, 230, rfl⟩

abbrev nD : Nat := 1
abbrev τ : Topo := Topo.v7x

variable {F : FTy → Type} [FloatOps F]
-- ==== Proof.WordBody.lean ====
module

public import proofs.«01_k».proof.Proof.Gen.Kernel.Frame.Runs

/-!
The run of the kernel's body on its one grid point: what its three stores leave in the result buffers.
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem kernelRun0_A (c : Dev nD) (arg0 : Memref sig .tc .vmem S32x128 .f32) (harg0 : arg0.IsWhole) (arg1 : Memref sig .tc .vmem S2048x128 .f32) (harg1 : arg1.IsWhole) (arg2 : Memref sig .tc .vmem S2048x32 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x32 .f32) (harg16 : arg16.IsWhole) (arg17 : Memref sig .tc .vmem S32x32 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .smem S1x1 .i32) (harg24 : arg24.IsWhole) (arg25 : Memref sig .tc .smem S1x1 .f32) (harg25 : arg25.IsWhole) (arg26 : Memref sig .tc .smem S1x1 .f32) (harg26 : arg26.IsWhole)
    (x0 : Vec F S32x128 .f32) (x1 : Vec F S2048x128 .f32) (x2 : Vec F S2048x32 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S128x256 .f32) (x13 : Vec F S1x256 .f32) (x14 : Vec F S256x256 .f32) (x15 : Vec F S1x256 .f32) (x16 : Vec F S256x32 .f32) (x17 : Vec F S32x32 .f32) (x18 : Vec F S256x256 .f32) (x19 : Vec F S1x256 .f32) (x20 : Vec F S256x256 .f32) (x21 : Vec F S1x256 .f32) (x22 : Vec F S1x256 .f32) (x23 : Vec F S1x1 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    intro E K
    simp only [cc0__body_eq_skeleton]; unfold cc0__body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _, _; isplitr; swap; · iexact H24
      ipureintro; rfl
    isplitl [H25]
    · iexists _, _; isplitr; swap; · iexact H25
      ipureintro; rfl
    iexists _, _; isplitr; swap; · iexact H26
    ipureintro; rfl

end Cert.Kernel.Gen

end
-- ==== Proof.WordFrame.lean ====
module

public import proofs.«01_k».proof.Proof.WordBody
public import Idealize.ShloMosaic.Lib.Claim

/-!
The frame of the program: every run ends, and its arguments are left as they were.
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
def forgets0 : Fin 27 → Bool := fun w => w.val == 24 || w.val == 25 || w.val == 26

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨_ + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare d)
    ∗ (∃ d, owns (c : Thread nD τ) (ms0_25 t) fullShare d)
    ∗ (∃ d, owns (c : Thread nD τ) (ms0_26 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ (∃ d, owns (c : Thread nD τ) (ms0_24 t) fullShare d)
    ∗ (∃ d, owns (c : Thread nD τ) (ms0_25 t) fullShare d)
    ∗ (∃ d, owns (c : Thread nD τ) (ms0_26 t) fullShare d))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 2000000 in
/-- The arguments after a run, from what the run says of its arrays. -/
theorem args_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 3 rfl).trans ((hA c 3).trans (V_main_arg4 m c)),
      ((h c).2 main_arg5 (Pipeline.mem_restRefs_of main_arg5 (by decide) (by decide))).trans (V_main_arg5 m c),
      (Pipeline.RDat.FramePost.arr_in h c 5 rfl).trans ((hA c 5).trans (V_main_arg6 m c)),
      ((h c).2 main_arg7 (Pipeline.mem_restRefs_of main_arg7 (by decide) (by decide))).trans (V_main_arg7 m c),
      (Pipeline.RDat.FramePost.arr_in h c 7 rfl).trans ((hA c 7).trans (V_main_arg8 m c)),
      ((h c).2 main_arg9 (Pipeline.mem_restRefs_of main_arg9 (by decide) (by decide))).trans (V_main_arg9 m c),
      (Pipeline.RDat.FramePost.arr_in h c 9 rfl).trans ((hA c 9).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      (Pipeline.RDat.FramePost.arr_in h c 14 rfl).trans ((hA c 14).trans (V_main_arg14 m c)),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      (Pipeline.RDat.FramePost.arr_in h c 18 rfl).trans ((hA c 18).trans (V_main_arg18 m c)),
      ((h c).2 main_arg19 (Pipeline.mem_restRefs_of main_arg19 (by decide) (by decide))).trans (V_main_arg19 m c),
      (Pipeline.RDat.FramePost.arr_in h c 20 rfl).trans ((hA c 20).trans (V_main_arg20 m c)),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c)⟩) h

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  args_of_run m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (unchanged m ρ) ((θ_run defs _ _).mono (fun _ h => h.2) (run_main_quiescent m ρ))

end Cert.Kernel.Gen

end
-- ==== Proof.ExactBody.lean ====
module

public import proofs.«01_k».proof.Proof.Gen.KernelIdeal.Frame.Runs

/-!
The run of the kernel's body on its one grid point: what its three stores leave in the result buffers.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_A (c : Dev nD) (arg0 : Memref sig .tc .vmem S32x128 .f32) (harg0 : arg0.IsWhole) (arg1 : Memref sig .tc .vmem S2048x128 .f32) (harg1 : arg1.IsWhole) (arg2 : Memref sig .tc .vmem S2048x32 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x32 .f32) (harg16 : arg16.IsWhole) (arg17 : Memref sig .tc .vmem S32x32 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .smem S1x1 .i32) (harg24 : arg24.IsWhole) (arg25 : Memref sig .tc .smem S1x1 .f32) (harg25 : arg25.IsWhole) (arg26 : Memref sig .tc .smem S1x1 .f32) (harg26 : arg26.IsWhole)
    (x0 : Vec F S32x128 .f32) (x1 : Vec F S2048x128 .f32) (x2 : Vec F S2048x32 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S128x256 .f32) (x13 : Vec F S1x256 .f32) (x14 : Vec F S256x256 .f32) (x15 : Vec F S1x256 .f32) (x16 : Vec F S256x32 .f32) (x17 : Vec F S32x32 .f32) (x18 : Vec F S256x256 .f32) (x19 : Vec F S1x256 .f32) (x20 : Vec F S256x256 .f32) (x21 : Vec F S1x256 .f32) (x22 : Vec F S1x256 .f32) (x23 : Vec F S1x1 .f32) :
    Σ' (L24 : List (View.Piece (Elt F) S1x1 .i32)), Σ' (L25 : List (View.Piece (Elt F) S1x1 .f32)), { L26 : List (View.Piece (Elt F) S1x1 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26)) -∗ K ⟨⟩))
          ⊢ wp frame (wpE (defs₀ (F := F)) Variants.none c none) E (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]; · iexists _; iexact H24
    isplitl [H25]; · iexists _; iexact H25
    iexists _; iexact H26

end Cert.KernelIdeal.Gen

end
-- ==== Proof.ExactFrame.lean ====
module

public import proofs.«01_k».proof.Proof.ExactBody
public import Idealize.ShloMosaic.Lib.Claim

/-!
The frame of the program: every run ends, and its arguments are left as they were.
-/

@[expose] public section

set_option maxHeartbeats 8000000
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
theorem cover0_A_24 (c : Dev nD) (arg0 : Memref sig .tc .vmem S32x128 .f32) (harg0 : arg0.IsWhole) (arg1 : Memref sig .tc .vmem S2048x128 .f32) (harg1 : arg1.IsWhole) (arg2 : Memref sig .tc .vmem S2048x32 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x32 .f32) (harg16 : arg16.IsWhole) (arg17 : Memref sig .tc .vmem S32x32 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .smem S1x1 .i32) (harg24 : arg24.IsWhole) (arg25 : Memref sig .tc .smem S1x1 .f32) (harg25 : arg25.IsWhole) (arg26 : Memref sig .tc .smem S1x1 .f32) (harg26 : arg26.IsWhole)
    (x0 : Vec F S32x128 .f32) (x1 : Vec F S2048x128 .f32) (x2 : Vec F S2048x32 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S128x256 .f32) (x13 : Vec F S1x256 .f32) (x14 : Vec F S256x256 .f32) (x15 : Vec F S1x256 .f32) (x16 : Vec F S256x32 .f32) (x17 : Vec F S32x32 .f32) (x18 : Vec F S256x256 .f32) (x19 : Vec F S1x256 .f32) (x20 : Vec F S256x256 .f32) (x21 : Vec F S1x256 .f32) (x22 : Vec F S1x256 .f32) (x23 : Vec F S1x1 .f32) (y : S1x1.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).1 S1x1.size (by sl_kernel_rfl) y

def out0_A_24 (c : Dev nD) (arg0 : Memref sig .tc .vmem S32x128 .f32) (harg0 : arg0.IsWhole) (arg1 : Memref sig .tc .vmem S2048x128 .f32) (harg1 : arg1.IsWhole) (arg2 : Memref sig .tc .vmem S2048x32 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x32 .f32) (harg16 : arg16.IsWhole) (arg17 : Memref sig .tc .vmem S32x32 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .smem S1x1 .i32) (harg24 : arg24.IsWhole) (arg25 : Memref sig .tc .smem S1x1 .f32) (harg25 : arg25.IsWhole) (arg26 : Memref sig .tc .smem S1x1 .f32) (harg26 : arg26.IsWhole)
    (x0 : Vec F S32x128 .f32) (x1 : Vec F S2048x128 .f32) (x2 : Vec F S2048x32 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S128x256 .f32) (x13 : Vec F S1x256 .f32) (x14 : Vec F S256x256 .f32) (x15 : Vec F S1x256 .f32) (x16 : Vec F S256x32 .f32) (x17 : Vec F S32x32 .f32) (x18 : Vec F S256x256 .f32) (x19 : Vec F S1x256 .f32) (x20 : Vec F S256x256 .f32) (x21 : Vec F S1x256 .f32) (x22 : Vec F S1x256 .f32) (x23 : Vec F S1x1 .f32) : Vec F S1x1 .i32 :=
  VO0_24.read (Elt F) (VO0_24.writes (Elt F) VO0_24.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).1)

theorem cover0_A_25 (c : Dev nD) (arg0 : Memref sig .tc .vmem S32x128 .f32) (harg0 : arg0.IsWhole) (arg1 : Memref sig .tc .vmem S2048x128 .f32) (harg1 : arg1.IsWhole) (arg2 : Memref sig .tc .vmem S2048x32 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x32 .f32) (harg16 : arg16.IsWhole) (arg17 : Memref sig .tc .vmem S32x32 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .smem S1x1 .i32) (harg24 : arg24.IsWhole) (arg25 : Memref sig .tc .smem S1x1 .f32) (harg25 : arg25.IsWhole) (arg26 : Memref sig .tc .smem S1x1 .f32) (harg26 : arg26.IsWhole)
    (x0 : Vec F S32x128 .f32) (x1 : Vec F S2048x128 .f32) (x2 : Vec F S2048x32 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S128x256 .f32) (x13 : Vec F S1x256 .f32) (x14 : Vec F S256x256 .f32) (x15 : Vec F S1x256 .f32) (x16 : Vec F S256x32 .f32) (x17 : Vec F S32x32 .f32) (x18 : Vec F S256x256 .f32) (x19 : Vec F S1x256 .f32) (x20 : Vec F S256x256 .f32) (x21 : Vec F S1x256 .f32) (x22 : Vec F S1x256 .f32) (x23 : Vec F S1x1 .f32) (y : S1x1.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).2.1 S1x1.size (by sl_kernel_rfl) y

def out0_A_25 (c : Dev nD) (arg0 : Memref sig .tc .vmem S32x128 .f32) (harg0 : arg0.IsWhole) (arg1 : Memref sig .tc .vmem S2048x128 .f32) (harg1 : arg1.IsWhole) (arg2 : Memref sig .tc .vmem S2048x32 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x32 .f32) (harg16 : arg16.IsWhole) (arg17 : Memref sig .tc .vmem S32x32 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .smem S1x1 .i32) (harg24 : arg24.IsWhole) (arg25 : Memref sig .tc .smem S1x1 .f32) (harg25 : arg25.IsWhole) (arg26 : Memref sig .tc .smem S1x1 .f32) (harg26 : arg26.IsWhole)
    (x0 : Vec F S32x128 .f32) (x1 : Vec F S2048x128 .f32) (x2 : Vec F S2048x32 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S128x256 .f32) (x13 : Vec F S1x256 .f32) (x14 : Vec F S256x256 .f32) (x15 : Vec F S1x256 .f32) (x16 : Vec F S256x32 .f32) (x17 : Vec F S32x32 .f32) (x18 : Vec F S256x256 .f32) (x19 : Vec F S1x256 .f32) (x20 : Vec F S256x256 .f32) (x21 : Vec F S1x256 .f32) (x22 : Vec F S1x256 .f32) (x23 : Vec F S1x1 .f32) : Vec F S1x1 .f32 :=
  VO0_25.read (Elt F) (VO0_25.writes (Elt F) VO0_25.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).2.1)

theorem cover0_A_26 (c : Dev nD) (arg0 : Memref sig .tc .vmem S32x128 .f32) (harg0 : arg0.IsWhole) (arg1 : Memref sig .tc .vmem S2048x128 .f32) (harg1 : arg1.IsWhole) (arg2 : Memref sig .tc .vmem S2048x32 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x32 .f32) (harg16 : arg16.IsWhole) (arg17 : Memref sig .tc .vmem S32x32 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .smem S1x1 .i32) (harg24 : arg24.IsWhole) (arg25 : Memref sig .tc .smem S1x1 .f32) (harg25 : arg25.IsWhole) (arg26 : Memref sig .tc .smem S1x1 .f32) (harg26 : arg26.IsWhole)
    (x0 : Vec F S32x128 .f32) (x1 : Vec F S2048x128 .f32) (x2 : Vec F S2048x32 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S128x256 .f32) (x13 : Vec F S1x256 .f32) (x14 : Vec F S256x256 .f32) (x15 : Vec F S1x256 .f32) (x16 : Vec F S256x32 .f32) (x17 : Vec F S32x32 .f32) (x18 : Vec F S256x256 .f32) (x19 : Vec F S1x256 .f32) (x20 : Vec F S256x256 .f32) (x21 : Vec F S1x256 .f32) (x22 : Vec F S1x256 .f32) (x23 : Vec F S1x1 .f32) (y : S1x1.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).2.2.1 S1x1.size (by sl_kernel_rfl) y

def out0_A_26 (c : Dev nD) (arg0 : Memref sig .tc .vmem S32x128 .f32) (harg0 : arg0.IsWhole) (arg1 : Memref sig .tc .vmem S2048x128 .f32) (harg1 : arg1.IsWhole) (arg2 : Memref sig .tc .vmem S2048x32 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x32 .f32) (harg16 : arg16.IsWhole) (arg17 : Memref sig .tc .vmem S32x32 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .smem S1x1 .i32) (harg24 : arg24.IsWhole) (arg25 : Memref sig .tc .smem S1x1 .f32) (harg25 : arg25.IsWhole) (arg26 : Memref sig .tc .smem S1x1 .f32) (harg26 : arg26.IsWhole)
    (x0 : Vec F S32x128 .f32) (x1 : Vec F S2048x128 .f32) (x2 : Vec F S2048x32 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S128x256 .f32) (x13 : Vec F S1x256 .f32) (x14 : Vec F S256x256 .f32) (x15 : Vec F S1x256 .f32) (x16 : Vec F S256x32 .f32) (x17 : Vec F S32x32 .f32) (x18 : Vec F S256x256 .f32) (x19 : Vec F S1x256 .f32) (x20 : Vec F S256x256 .f32) (x21 : Vec F S1x256 .f32) (x22 : Vec F S1x256 .f32) (x23 : Vec F S1x1 .f32) : Vec F S1x1 .f32 :=
  VO0_26.read (Elt F) (VO0_26.writes (Elt F) VO0_26.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).2.2.1)

def outsAt0 (c : Dev nD) (t : Fin cfg0.N) : Vec F S1x1 .i32 × Vec F S1x1 .f32 × Vec F S1x1 .f32 :=
  (out0_A_24 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_25 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_26 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t).1
    | ⟨25, _⟩ => (outsAt0 m c t).2.1
    | ⟨26, _⟩ => (outsAt0 m c t).2.2
    | ⟨_ + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t).1 := by dsimp only [dats]
theorem after0_25 (c : Dev nD) (t : Fin cfg0.N) : (dats m 0 c).after 25 t = (outsAt0 m c t).2.1 := by dsimp only [dats]
theorem after0_26 (c : Dev nD) (t : Fin cfg0.N) : (dats m 0 c).after 26 t = (outsAt0 m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  unfold outsAt0
  unfold out0_A_24 out0_A_25 out0_A_26; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, ⟨%e24, H24⟩, ⟨%e25, H25⟩, ⟨%e26, H26⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (unchanged m ρ) ((θ_run defs _ _).mono (fun _ h => h.2) (run_main_quiescent m ρ))

end Cert.KernelIdeal.Gen

end
-- ==== Proof.ExactValue.lean ====
module

public import proofs.«01_k».proof.Proof.ExactFrame
public import Idealize.ShloMosaic.Lib.Pipeline.Value

/-!
The result arrays after the run, block by block.
-/

@[expose] public section

set_option maxHeartbeats 8000000

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem flushed24 (c : Dev nD) (t : Fin cfg0.N) :
    (dats m 0 c).flushed 24 t = (cfg0.win 24).cut (grid0.coords t) ((outsAt0 m c t).1) := by
  show (cfg0.win 24).cut (grid0.coords t) ((dats m 0 c).after 24 t) = _
  rw [after0_24]

theorem flushed24_A (c : Dev nD) (t : Fin cfg0.N) :
    (dats m 0 c).flushed 24 t = (cfg0.win 24).cut (grid0.coords t) (out0_A_24 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed24, outsAt0]

theorem idx_inj24 : ∀ t t' : Fin cfg0.N, win0_24.index t = win0_24.index t' → t = t' :=
  (by decide +kernel : ∀ t t' : Fin grid0.N, win0_24.index t = win0_24.index t' → t = t')

theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

theorem entry24 (c : Dev nD) (i : S1x1.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

theorem flushed25 (c : Dev nD) (t : Fin cfg0.N) :
    (dats m 0 c).flushed 25 t = (cfg0.win 25).cut (grid0.coords t) ((outsAt0 m c t).2.1) := by
  show (cfg0.win 25).cut (grid0.coords t) ((dats m 0 c).after 25 t) = _
  rw [after0_25]

theorem flushed25_A (c : Dev nD) (t : Fin cfg0.N) :
    (dats m 0 c).flushed 25 t = (cfg0.win 25).cut (grid0.coords t) (out0_A_25 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed25, outsAt0]

theorem idx_inj25 : ∀ t t' : Fin cfg0.N, win0_25.index t = win0_25.index t' → t = t' :=
  (by decide +kernel : ∀ t t' : Fin grid0.N, win0_25.index t = win0_25.index t' → t = t')

theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

theorem entry25 (c : Dev nD) (i : S1x1.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

theorem flushed26 (c : Dev nD) (t : Fin cfg0.N) :
    (dats m 0 c).flushed 26 t = (cfg0.win 26).cut (grid0.coords t) ((outsAt0 m c t).2.2) := by
  show (cfg0.win 26).cut (grid0.coords t) ((dats m 0 c).after 26 t) = _
  rw [after0_26]

theorem flushed26_A (c : Dev nD) (t : Fin cfg0.N) :
    (dats m 0 c).flushed 26 t = (cfg0.win 26).cut (grid0.coords t) (out0_A_26 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed26, outsAt0]

theorem idx_inj26 : ∀ t t' : Fin cfg0.N, win0_26.index t = win0_26.index t' → t = t' :=
  (by decide +kernel : ∀ t t' : Fin grid0.N, win0_26.index t = win0_26.index t' → t = t')

theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

theorem entry26 (c : Dev nD) (i : S1x1.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

theorem post24 (r : PUnit × MemSt nD τ sig (Elt F)) (h : Pipeline.FramePost cfgs (dats m) 0 (V m) r) (c : Dev nD) :
    r.2.mem ((c : Thread nD τ).loc main_v22_0) = (dats m 0 c).arrAt 24 cfg0.N :=
  (h c).1 24

theorem post25 (r : PUnit × MemSt nD τ sig (Elt F)) (h : Pipeline.FramePost cfgs (dats m) 0 (V m) r) (c : Dev nD) :
    r.2.mem ((c : Thread nD τ).loc main_v22_1) = (dats m 0 c).arrAt 25 cfg0.N :=
  (h c).1 25

theorem post26 (r : PUnit × MemSt nD τ sig (Elt F)) (h : Pipeline.FramePost cfgs (dats m) 0 (V m) r) (c : Dev nD) :
    r.2.mem ((c : Thread nD τ).loc main_v22_2) = (dats m 0 c).arrAt 26 cfg0.N :=
  (h c).1 26

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 5).trans (((dats m 0 c).arrAt_in 5 rfl _).trans ((A_eq m c 5).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 7).trans (((dats m 0 c).arrAt_in 7 rfl _).trans ((A_eq m c 7).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 9).trans (((dats m 0 c).arrAt_in 9 rfl _).trans ((A_eq m c 9).trans (V_main_arg10 m c)))

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 18).trans (((dats m 0 c).arrAt_in 18 rfl _).trans ((A_eq m c 18).trans (V_main_arg18 m c)))

theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).1 20).trans (((dats m 0 c).arrAt_in 20 rfl _).trans ((A_eq m c 20).trans (V_main_arg20 m c)))

theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

theorem run_blocks : θ_run defs (onTc (τ := τ) (main (F := F))) ⟨m, fun _ => 0, ρ⟩ fun r => ∀ c : Dev nD,
      r.2.mem ((c : Thread nD τ).loc main_v22_0) = (dats m 0 c).arrAt 24 cfg0.N
      ∧ r.2.mem ((c : Thread nD τ).loc main_v22_1) = (dats m 0 c).arrAt 25 cfg0.N
      ∧ r.2.mem ((c : Thread nD τ).loc main_v22_2) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => ⟨post24 m r h c,
      post25 m r h c,
      post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c⟩)
    (run_main m ρ)

end Cert.KernelIdeal.Value

end
-- ==== Proof.KernelVals.lean ====
module

public import proofs.«01_k».proof.Proof.Gen.KernelIdeal.Skeleton

/-!
The values the kernel's body computes, as functions of the 24 arrays it reads.
-/

@[expose] public section

set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem Idealize.ShloMosaic.StableHlo

variable {F : FTy → Type} [FloatOps F] [Named F]

/-! ## The body's values, from the 24 arrays it reads -/

/-- The arrays the kernel's body reads. -/
structure Ins (F : FTy → Type) [FloatOps F] where
  x0 : Vec F S32x128 .f32
  x1 : Vec F S2048x128 .f32
  x2 : Vec F S2048x32 .f32
  x3 : Vec F S128x128 .f32
  x4 : Vec F S1x128 .f32
  x5 : Vec F S128x128 .f32
  x6 : Vec F S1x128 .f32
  x7 : Vec F S128x128 .f32
  x8 : Vec F S1x128 .f32
  x9 : Vec F S128x128 .f32
  x10 : Vec F S1x128 .f32
  x11 : Vec F S128x256 .f32
  x12 : Vec F S128x256 .f32
  x13 : Vec F S1x256 .f32
  x14 : Vec F S256x256 .f32
  x15 : Vec F S1x256 .f32
  x16 : Vec F S256x32 .f32
  x17 : Vec F S32x32 .f32
  x18 : Vec F S256x256 .f32
  x19 : Vec F S1x256 .f32
  x20 : Vec F S256x256 .f32
  x21 : Vec F S1x256 .f32
  x22 : Vec F S1x256 .f32
  x23 : Vec F S1x1 .f32

variable (x : Ins F)

/-- The cranes' features. -/
def craneF : FVec F S32x128 .f32 := k0_pay2 x.x0 x.x3 x.x4 x.x5 x.x6
/-- The cranes' part of the first pair layer. -/
def craneU : FVec F S32x256 .f32 := k0_pay3 x.x0 x.x3 x.x4 x.x5 x.x6 x.x11 x.x13
/-- The piles' features. -/
def pileF : FVec F S2048x128 .f32 := k0_pay4 x.x1 x.x7 (constant S2048x128 .f32 0x00000000#32) x.x8 x.x9 x.x10
/-- The second pair layer before its bias. -/
def pairPre : FVec F S65536x256 .f32 :=
  k0_pay5 (craneU x) x.x1 x.x7 (constant S2048x128 .f32 0x00000000#32) x.x8 x.x9 x.x10 x.x12 x.x14
/-- The masked logits. -/
def scores : FVec F S2048x32 .f32 := k0_pay6 (pairPre x) x.x15 x.x16 x.x17 x.x2
/-- The sum of the exponentials of the logits less their maximum. -/
def total : F .f32 := k0_pay8 (pairPre x) x.x15 x.x16 x.x17 x.x2
/-- Which pairs attain the maximum. -/
def attains : IVec S2048x32 1 := k0_pay10 (pairPre x) x.x15 x.x16 x.x17 x.x2
/-- The chosen pair. -/
def chosen : BitVec 32 := extractAt ![0, 0, 0] (k0_pay12 k0_pay9 (attains x) k0_pay11) inpos_S1x1x1_p0_0_0
/-- The critic before its last activation. -/
def criticPre : FVec F S1x256 .f32 := k0_pay14 (craneF x) (pileF x) x.x18 x.x19 x.x20 x.x21
/-- The critic's value. -/
def critic : F .f32 := k0_pay1 (criticPre x) (k0_pay15 (F := F)) x.x22 x.x23

end Cert.KernelIdeal.Hand
-- ==== Proof.KernelWord.lean ====
module

public import proofs.«01_k».proof.Proof.ExactValue
public import proofs.«01_k».proof.Proof.KernelVals
public import Idealize.ShloMosaic.Lib.Pipeline.Value

/-!
What one execution of the kernel's body leaves in its three results, whatever the arrays it reads.
-/

@[expose] public section

set_option maxHeartbeats 8000000
set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem Idealize.ShloMosaic.StableHlo

variable {F : FTy → Type} [FloatOps F] [Named F]

theorem word24 (c : Dev nD) (arg0 : Memref sig .tc .vmem S32x128 .f32) (harg0 : arg0.IsWhole) (arg1 : Memref sig .tc .vmem S2048x128 .f32) (harg1 : arg1.IsWhole) (arg2 : Memref sig .tc .vmem S2048x32 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x32 .f32) (harg16 : arg16.IsWhole) (arg17 : Memref sig .tc .vmem S32x32 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .smem S1x1 .i32) (harg24 : arg24.IsWhole) (arg25 : Memref sig .tc .smem S1x1 .f32) (harg25 : arg25.IsWhole) (arg26 : Memref sig .tc .smem S1x1 .f32) (harg26 : arg26.IsWhole)
    (x0 : Vec F S32x128 .f32) (x1 : Vec F S2048x128 .f32) (x2 : Vec F S2048x32 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S128x256 .f32) (x13 : Vec F S1x256 .f32) (x14 : Vec F S256x256 .f32) (x15 : Vec F S1x256 .f32) (x16 : Vec F S256x32 .f32) (x17 : Vec F S32x32 .f32) (x18 : Vec F S256x256 .f32) (x19 : Vec F S1x256 .f32) (x20 : Vec F S256x256 .f32) (x21 : Vec F S1x256 .f32) (x22 : Vec F S1x256 .f32) (x23 : Vec F S1x1 .f32) :
    out0_A_24 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 = fun _ => chosen ⟨x0, x1, x2, x3, x4, x5, x6, x7, x8, x9, x10, x11, x12, x13, x14, x15, x16, x17, x18, x19, x20, x21, x22, x23⟩ := by
  have z0 : (![0, 0] : Fin S32x128.rank → Nat) = fun _ => 0 := funext fun a => by fin_cases a <;> rfl
  have z1 : (![0, 0] : Fin S2048x128.rank → Nat) = fun _ => 0 := funext fun a => by fin_cases a <;> rfl
  have z2 : (![0, 0] : Fin S2048x32.rank → Nat) = fun _ => 0 := funext fun a => by fin_cases a <;> rfl
  have z3 : (![0, 0] : Fin S128x128.rank → Nat) = fun _ => 0 := funext fun a => by fin_cases a <;> rfl
  have z4 : (![0, 0] : Fin S1x128.rank → Nat) = fun _ => 0 := funext fun a => by fin_cases a <;> rfl
  have z5 : (![0, 0] : Fin S128x256.rank → Nat) = fun _ => 0 := funext fun a => by fin_cases a <;> rfl
  have z6 : (![0, 0] : Fin S1x256.rank → Nat) = fun _ => 0 := funext fun a => by fin_cases a <;> rfl
  have z7 : (![0, 0] : Fin S256x256.rank → Nat) = fun _ => 0 := funext fun a => by fin_cases a <;> rfl
  have z8 : (![0, 0] : Fin S256x32.rank → Nat) = fun _ => 0 := funext fun a => by fin_cases a <;> rfl
  have z9 : (![0, 0] : Fin S32x32.rank → Nat) = fun _ => 0 := funext fun a => by fin_cases a <;> rfl
  have z10 : (![0, 0] : Fin S1x1.rank → Nat) = fun _ => 0 := funext fun a => by fin_cases a <;> rfl
  have l0 (inb) (X : Vec F S32x128 .f32) : View.ld X (Rect.unit (s := S32x128) ![0, 0] ![32, 128] inb) = X := View.ld_unit_zero (S := S32x128) z0 inb X
  have l1 (inb) (X : Vec F S2048x128 .f32) : View.ld X (Rect.unit (s := S2048x128) ![0, 0] ![2048, 128] inb) = X := View.ld_unit_zero (S := S2048x128) z1 inb X
  have l2 (inb) (X : Vec F S2048x32 .f32) : View.ld X (Rect.unit (s := S2048x32) ![0, 0] ![2048, 32] inb) = X := View.ld_unit_zero (S := S2048x32) z2 inb X
  have l3 (inb) (X : Vec F S128x128 .f32) : View.ld X (Rect.unit (s := S128x128) ![0, 0] ![128, 128] inb) = X := View.ld_unit_zero (S := S128x128) z3 inb X
  have l4 (inb) (X : Vec F S1x128 .f32) : View.ld X (Rect.unit (s := S1x128) ![0, 0] ![1, 128] inb) = X := View.ld_unit_zero (S := S1x128) z4 inb X
  have l5 (inb) (X : Vec F S128x256 .f32) : View.ld X (Rect.unit (s := S128x256) ![0, 0] ![128, 256] inb) = X := View.ld_unit_zero (S := S128x256) z5 inb X
  have l6 (inb) (X : Vec F S1x256 .f32) : View.ld X (Rect.unit (s := S1x256) ![0, 0] ![1, 256] inb) = X := View.ld_unit_zero (S := S1x256) z6 inb X
  have l7 (inb) (X : Vec F S256x256 .f32) : View.ld X (Rect.unit (s := S256x256) ![0, 0] ![256, 256] inb) = X := View.ld_unit_zero (S := S256x256) z7 inb X
  have l8 (inb) (X : Vec F S256x32 .f32) : View.ld X (Rect.unit (s := S256x32) ![0, 0] ![256, 32] inb) = X := View.ld_unit_zero (S := S256x32) z8 inb X
  have l9 (inb) (X : Vec F S32x32 .f32) : View.ld X (Rect.unit (s := S32x32) ![0, 0] ![32, 32] inb) = X := View.ld_unit_zero (S := S32x32) z9 inb X
  have l10 (inb) (X : Vec F S1x1 .f32) : View.ld X (Rect.unit (s := S1x1) ![0, 0] ![1, 1] inb) = X := View.ld_unit_zero (S := S1x1) z10 inb X
  unfold out0_A_24
  rw [View.read_writes_eq_canon _ _ _ (cover0_A_24 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23)]
  unfold kernelRun0_A
  dsimp only
  sl_unfold_words
  refine (View.canon_unit_zero (S := S1x1) z10 _ _).trans ?_
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, l0, l1, l2, l3, l4, l5, l6, l7, l8, l9, l10]
  rfl

theorem word25 (c : Dev nD) (arg0 : Memref sig .tc .vmem S32x128 .f32) (harg0 : arg0.IsWhole) (arg1 : Memref sig .tc .vmem S2048x128 .f32) (harg1 : arg1.IsWhole) (arg2 : Memref sig .tc .vmem S2048x32 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x32 .f32) (harg16 : arg16.IsWhole) (arg17 : Memref sig .tc .vmem S32x32 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .smem S1x1 .i32) (harg24 : arg24.IsWhole) (arg25 : Memref sig .tc .smem S1x1 .f32) (harg25 : arg25.IsWhole) (arg26 : Memref sig .tc .smem S1x1 .f32) (harg26 : arg26.IsWhole)
    (x0 : Vec F S32x128 .f32) (x1 : Vec F S2048x128 .f32) (x2 : Vec F S2048x32 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S128x256 .f32) (x13 : Vec F S1x256 .f32) (x14 : Vec F S256x256 .f32) (x15 : Vec F S1x256 .f32) (x16 : Vec F S256x32 .f32) (x17 : Vec F S32x32 .f32) (x18 : Vec F S256x256 .f32) (x19 : Vec F S1x256 .f32) (x20 : Vec F S256x256 .f32) (x21 : Vec F S1x256 .f32) (x22 : Vec F S1x256 .f32) (x23 : Vec F S1x1 .f32) :
    out0_A_25 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 = fun _ => k0_pay13 (total ⟨x0, x1, x2, x3, x4, x5, x6, x7, x8, x9, x10, x11, x12, x13, x14, x15, x16, x17, x18, x19, x20, x21, x22, x23⟩) := by
  have z0 : (![0, 0] : Fin S32x128.rank → Nat) = fun _ => 0 := funext fun a => by fin_cases a <;> rfl
  have z1 : (![0, 0] : Fin S2048x128.rank → Nat) = fun _ => 0 := funext fun a => by fin_cases a <;> rfl
  have z2 : (![0, 0] : Fin S2048x32.rank → Nat) = fun _ => 0 := funext fun a => by fin_cases a <;> rfl
  have z3 : (![0, 0] : Fin S128x128.rank → Nat) = fun _ => 0 := funext fun a => by fin_cases a <;> rfl
  have z4 : (![0, 0] : Fin S1x128.rank → Nat) = fun _ => 0 := funext fun a => by fin_cases a <;> rfl
  have z5 : (![0, 0] : Fin S128x256.rank → Nat) = fun _ => 0 := funext fun a => by fin_cases a <;> rfl
  have z6 : (![0, 0] : Fin S1x256.rank → Nat) = fun _ => 0 := funext fun a => by fin_cases a <;> rfl
  have z7 : (![0, 0] : Fin S256x256.rank → Nat) = fun _ => 0 := funext fun a => by fin_cases a <;> rfl
  have z8 : (![0, 0] : Fin S256x32.rank → Nat) = fun _ => 0 := funext fun a => by fin_cases a <;> rfl
  have z9 : (![0, 0] : Fin S32x32.rank → Nat) = fun _ => 0 := funext fun a => by fin_cases a <;> rfl
  have z10 : (![0, 0] : Fin S1x1.rank → Nat) = fun _ => 0 := funext fun a => by fin_cases a <;> rfl
  have l0 (inb) (X : Vec F S32x128 .f32) : View.ld X (Rect.unit (s := S32x128) ![0, 0] ![32, 128] inb) = X := View.ld_unit_zero (S := S32x128) z0 inb X
  have l1 (inb) (X : Vec F S2048x128 .f32) : View.ld X (Rect.unit (s := S2048x128) ![0, 0] ![2048, 128] inb) = X := View.ld_unit_zero (S := S2048x128) z1 inb X
  have l2 (inb) (X : Vec F S2048x32 .f32) : View.ld X (Rect.unit (s := S2048x32) ![0, 0] ![2048, 32] inb) = X := View.ld_unit_zero (S := S2048x32) z2 inb X
  have l3 (inb) (X : Vec F S128x128 .f32) : View.ld X (Rect.unit (s := S128x128) ![0, 0] ![128, 128] inb) = X := View.ld_unit_zero (S := S128x128) z3 inb X
  have l4 (inb) (X : Vec F S1x128 .f32) : View.ld X (Rect.unit (s := S1x128) ![0, 0] ![1, 128] inb) = X := View.ld_unit_zero (S := S1x128) z4 inb X
  have l5 (inb) (X : Vec F S128x256 .f32) : View.ld X (Rect.unit (s := S128x256) ![0, 0] ![128, 256] inb) = X := View.ld_unit_zero (S := S128x256) z5 inb X
  have l6 (inb) (X : Vec F S1x256 .f32) : View.ld X (Rect.unit (s := S1x256) ![0, 0] ![1, 256] inb) = X := View.ld_unit_zero (S := S1x256) z6 inb X
  have l7 (inb) (X : Vec F S256x256 .f32) : View.ld X (Rect.unit (s := S256x256) ![0, 0] ![256, 256] inb) = X := View.ld_unit_zero (S := S256x256) z7 inb X
  have l8 (inb) (X : Vec F S256x32 .f32) : View.ld X (Rect.unit (s := S256x32) ![0, 0] ![256, 32] inb) = X := View.ld_unit_zero (S := S256x32) z8 inb X
  have l9 (inb) (X : Vec F S32x32 .f32) : View.ld X (Rect.unit (s := S32x32) ![0, 0] ![32, 32] inb) = X := View.ld_unit_zero (S := S32x32) z9 inb X
  have l10 (inb) (X : Vec F S1x1 .f32) : View.ld X (Rect.unit (s := S1x1) ![0, 0] ![1, 1] inb) = X := View.ld_unit_zero (S := S1x1) z10 inb X
  unfold out0_A_25
  rw [View.read_writes_eq_canon _ _ _ (cover0_A_25 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23)]
  unfold kernelRun0_A
  dsimp only
  sl_unfold_words
  refine (View.canon_unit_zero (S := S1x1) z10 _ _).trans ?_
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, l0, l1, l2, l3, l4, l5, l6, l7, l8, l9, l10]
  rfl

theorem word26 (c : Dev nD) (arg0 : Memref sig .tc .vmem S32x128 .f32) (harg0 : arg0.IsWhole) (arg1 : Memref sig .tc .vmem S2048x128 .f32) (harg1 : arg1.IsWhole) (arg2 : Memref sig .tc .vmem S2048x32 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x32 .f32) (harg16 : arg16.IsWhole) (arg17 : Memref sig .tc .vmem S32x32 .f32) (harg17 : arg17.IsWhole) (arg18 : Memref sig .tc .vmem S256x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .smem S1x1 .i32) (harg24 : arg24.IsWhole) (arg25 : Memref sig .tc .smem S1x1 .f32) (harg25 : arg25.IsWhole) (arg26 : Memref sig .tc .smem S1x1 .f32) (harg26 : arg26.IsWhole)
    (x0 : Vec F S32x128 .f32) (x1 : Vec F S2048x128 .f32) (x2 : Vec F S2048x32 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S128x256 .f32) (x13 : Vec F S1x256 .f32) (x14 : Vec F S256x256 .f32) (x15 : Vec F S1x256 .f32) (x16 : Vec F S256x32 .f32) (x17 : Vec F S32x32 .f32) (x18 : Vec F S256x256 .f32) (x19 : Vec F S1x256 .f32) (x20 : Vec F S256x256 .f32) (x21 : Vec F S1x256 .f32) (x22 : Vec F S1x256 .f32) (x23 : Vec F S1x1 .f32) :
    out0_A_26 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 = fun _ => critic ⟨x0, x1, x2, x3, x4, x5, x6, x7, x8, x9, x10, x11, x12, x13, x14, x15, x16, x17, x18, x19, x20, x21, x22, x23⟩ := by
  have z0 : (![0, 0] : Fin S32x128.rank → Nat) = fun _ => 0 := funext fun a => by fin_cases a <;> rfl
  have z1 : (![0, 0] : Fin S2048x128.rank → Nat) = fun _ => 0 := funext fun a => by fin_cases a <;> rfl
  have z2 : (![0, 0] : Fin S2048x32.rank → Nat) = fun _ => 0 := funext fun a => by fin_cases a <;> rfl
  have z3 : (![0, 0] : Fin S128x128.rank → Nat) = fun _ => 0 := funext fun a => by fin_cases a <;> rfl
  have z4 : (![0, 0] : Fin S1x128.rank → Nat) = fun _ => 0 := funext fun a => by fin_cases a <;> rfl
  have z5 : (![0, 0] : Fin S128x256.rank → Nat) = fun _ => 0 := funext fun a => by fin_cases a <;> rfl
  have z6 : (![0, 0] : Fin S1x256.rank → Nat) = fun _ => 0 := funext fun a => by fin_cases a <;> rfl
  have z7 : (![0, 0] : Fin S256x256.rank → Nat) = fun _ => 0 := funext fun a => by fin_cases a <;> rfl
  have z8 : (![0, 0] : Fin S256x32.rank → Nat) = fun _ => 0 := funext fun a => by fin_cases a <;> rfl
  have z9 : (![0, 0] : Fin S32x32.rank → Nat) = fun _ => 0 := funext fun a => by fin_cases a <;> rfl
  have z10 : (![0, 0] : Fin S1x1.rank → Nat) = fun _ => 0 := funext fun a => by fin_cases a <;> rfl
  have l0 (inb) (X : Vec F S32x128 .f32) : View.ld X (Rect.unit (s := S32x128) ![0, 0] ![32, 128] inb) = X := View.ld_unit_zero (S := S32x128) z0 inb X
  have l1 (inb) (X : Vec F S2048x128 .f32) : View.ld X (Rect.unit (s := S2048x128) ![0, 0] ![2048, 128] inb) = X := View.ld_unit_zero (S := S2048x128) z1 inb X
  have l2 (inb) (X : Vec F S2048x32 .f32) : View.ld X (Rect.unit (s := S2048x32) ![0, 0] ![2048, 32] inb) = X := View.ld_unit_zero (S := S2048x32) z2 inb X
  have l3 (inb) (X : Vec F S128x128 .f32) : View.ld X (Rect.unit (s := S128x128) ![0, 0] ![128, 128] inb) = X := View.ld_unit_zero (S := S128x128) z3 inb X
  have l4 (inb) (X : Vec F S1x128 .f32) : View.ld X (Rect.unit (s := S1x128) ![0, 0] ![1, 128] inb) = X := View.ld_unit_zero (S := S1x128) z4 inb X
  have l5 (inb) (X : Vec F S128x256 .f32) : View.ld X (Rect.unit (s := S128x256) ![0, 0] ![128, 256] inb) = X := View.ld_unit_zero (S := S128x256) z5 inb X
  have l6 (inb) (X : Vec F S1x256 .f32) : View.ld X (Rect.unit (s := S1x256) ![0, 0] ![1, 256] inb) = X := View.ld_unit_zero (S := S1x256) z6 inb X
  have l7 (inb) (X : Vec F S256x256 .f32) : View.ld X (Rect.unit (s := S256x256) ![0, 0] ![256, 256] inb) = X := View.ld_unit_zero (S := S256x256) z7 inb X
  have l8 (inb) (X : Vec F S256x32 .f32) : View.ld X (Rect.unit (s := S256x32) ![0, 0] ![256, 32] inb) = X := View.ld_unit_zero (S := S256x32) z8 inb X
  have l9 (inb) (X : Vec F S32x32 .f32) : View.ld X (Rect.unit (s := S32x32) ![0, 0] ![32, 32] inb) = X := View.ld_unit_zero (S := S32x32) z9 inb X
  have l10 (inb) (X : Vec F S1x1 .f32) : View.ld X (Rect.unit (s := S1x1) ![0, 0] ![1, 1] inb) = X := View.ld_unit_zero (S := S1x1) z10 inb X
  unfold out0_A_26
  rw [View.read_writes_eq_canon _ _ _ (cover0_A_26 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23)]
  unfold kernelRun0_A
  dsimp only
  sl_unfold_words
  refine (View.canon_unit_zero (S := S1x1) z10 _ _).trans ?_
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, l0, l1, l2, l3, l4, l5, l6, l7, l8, l9, l10]
  rfl

end Cert.KernelIdeal.Hand
-- ==== Proof.KernelOut.lean ====
module

public import proofs.«01_k».proof.Proof.ExactValue
public import proofs.«01_k».proof.Proof.KernelWord
public import Idealize.ShloMosaic.Lib.Pipeline.Value

/-!
What the kernel leaves in its three result arrays: its one grid point's payloads, over the arrays the host hands it.
-/

@[expose] public section

set_option maxHeartbeats 8000000
set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem Idealize.ShloMosaic.StableHlo
open Idealize.ShloMosaic.Pipeline (Dat Cfg Window)

variable {F : FTy → Type} [FloatOps F] [Named F]

section
variable (m : (ℓ : Loc nD τ sig) → Buf (Elt F) ℓ) (c : Dev nD)

/-- The arrays as the host operations before the kernel leave them. -/
def ins : Ins F where
  x0 := V m c main_arg0
  x1 := V m c main_arg1
  x2 := V m c main_v2
  x3 := V m c main_arg4
  x4 := V m c main_v10
  x5 := V m c main_arg6
  x6 := V m c main_v11
  x7 := V m c main_arg8
  x8 := V m c main_v12
  x9 := V m c main_arg10
  x10 := V m c main_v13
  x11 := V m c main_v14
  x12 := V m c main_v15
  x13 := V m c main_v16
  x14 := V m c main_arg14
  x15 := V m c main_v17
  x16 := V m c main_v3
  x17 := V m c main_v9
  x18 := V m c main_arg18
  x19 := V m c main_v18
  x20 := V m c main_arg20
  x21 := V m c main_v19
  x22 := V m c main_v20
  x23 := V m c main_v21

/-- The kernel's one grid point. -/
abbrev pt : Fin cfg0.N := ⟨0, by decide⟩

theorem block0 : iblk m c 0 pt = V m c main_arg0 :=
  Memref.read_access_unit_zero (Elt F) main_arg0 (funext fun a => by fin_cases a <;> decide) (fun a => by fin_cases a <;> decide) _
theorem block1 : iblk m c 1 pt = V m c main_arg1 :=
  Memref.read_access_unit_zero (Elt F) main_arg1 (funext fun a => by fin_cases a <;> decide) (fun a => by fin_cases a <;> decide) _
theorem block2 : iblk m c 2 pt = V m c main_v2 :=
  Memref.read_access_unit_zero (Elt F) main_v2 (funext fun a => by fin_cases a <;> decide) (fun a => by fin_cases a <;> decide) _
theorem block3 : iblk m c 3 pt = V m c main_arg4 :=
  Memref.read_access_unit_zero (Elt F) main_arg4 (funext fun a => by fin_cases a <;> decide) (fun a => by fin_cases a <;> decide) _
theorem block4 : iblk m c 4 pt = V m c main_v10 :=
  Memref.read_access_unit_zero (Elt F) main_v10 (funext fun a => by fin_cases a <;> decide) (fun a => by fin_cases a <;> decide) _
theorem block5 : iblk m c 5 pt = V m c main_arg6 :=
  Memref.read_access_unit_zero (Elt F) main_arg6 (funext fun a => by fin_cases a <;> decide) (fun a => by fin_cases a <;> decide) _
theorem block6 : iblk m c 6 pt = V m c main_v11 :=
  Memref.read_access_unit_zero (Elt F) main_v11 (funext fun a => by fin_cases a <;> decide) (fun a => by fin_cases a <;> decide) _
theorem block7 : iblk m c 7 pt = V m c main_arg8 :=
  Memref.read_access_unit_zero (Elt F) main_arg8 (funext fun a => by fin_cases a <;> decide) (fun a => by fin_cases a <;> decide) _
theorem block8 : iblk m c 8 pt = V m c main_v12 :=
  Memref.read_access_unit_zero (Elt F) main_v12 (funext fun a => by fin_cases a <;> decide) (fun a => by fin_cases a <;> decide) _
theorem block9 : iblk m c 9 pt = V m c main_arg10 :=
  Memref.read_access_unit_zero (Elt F) main_arg10 (funext fun a => by fin_cases a <;> decide) (fun a => by fin_cases a <;> decide) _
theorem block10 : iblk m c 10 pt = V m c main_v13 :=
  Memref.read_access_unit_zero (Elt F) main_v13 (funext fun a => by fin_cases a <;> decide) (fun a => by fin_cases a <;> decide) _
theorem block11 : iblk m c 11 pt = V m c main_v14 :=
  Memref.read_access_unit_zero (Elt F) main_v14 (funext fun a => by fin_cases a <;> decide) (fun a => by fin_cases a <;> decide) _
theorem block12 : iblk m c 12 pt = V m c main_v15 :=
  Memref.read_access_unit_zero (Elt F) main_v15 (funext fun a => by fin_cases a <;> decide) (fun a => by fin_cases a <;> decide) _
theorem block13 : iblk m c 13 pt = V m c main_v16 :=
  Memref.read_access_unit_zero (Elt F) main_v16 (funext fun a => by fin_cases a <;> decide) (fun a => by fin_cases a <;> decide) _
theorem block14 : iblk m c 14 pt = V m c main_arg14 :=
  Memref.read_access_unit_zero (Elt F) main_arg14 (funext fun a => by fin_cases a <;> decide) (fun a => by fin_cases a <;> decide) _
theorem block15 : iblk m c 15 pt = V m c main_v17 :=
  Memref.read_access_unit_zero (Elt F) main_v17 (funext fun a => by fin_cases a <;> decide) (fun a => by fin_cases a <;> decide) _
theorem block16 : iblk m c 16 pt = V m c main_v3 :=
  Memref.read_access_unit_zero (Elt F) main_v3 (funext fun a => by fin_cases a <;> decide) (fun a => by fin_cases a <;> decide) _
theorem block17 : iblk m c 17 pt = V m c main_v9 :=
  Memref.read_access_unit_zero (Elt F) main_v9 (funext fun a => by fin_cases a <;> decide) (fun a => by fin_cases a <;> decide) _
theorem block18 : iblk m c 18 pt = V m c main_arg18 :=
  Memref.read_access_unit_zero (Elt F) main_arg18 (funext fun a => by fin_cases a <;> decide) (fun a => by fin_cases a <;> decide) _
theorem block19 : iblk m c 19 pt = V m c main_v18 :=
  Memref.read_access_unit_zero (Elt F) main_v18 (funext fun a => by fin_cases a <;> decide) (fun a => by fin_cases a <;> decide) _
theorem block20 : iblk m c 20 pt = V m c main_arg20 :=
  Memref.read_access_unit_zero (Elt F) main_arg20 (funext fun a => by fin_cases a <;> decide) (fun a => by fin_cases a <;> decide) _
theorem block21 : iblk m c 21 pt = V m c main_v19 :=
  Memref.read_access_unit_zero (Elt F) main_v19 (funext fun a => by fin_cases a <;> decide) (fun a => by fin_cases a <;> decide) _
theorem block22 : iblk m c 22 pt = V m c main_v20 :=
  Memref.read_access_unit_zero (Elt F) main_v20 (funext fun a => by fin_cases a <;> decide) (fun a => by fin_cases a <;> decide) _
theorem block23 : iblk m c 23 pt = V m c main_v21 :=
  Memref.read_access_unit_zero (Elt F) main_v21 (funext fun a => by fin_cases a <;> decide) (fun a => by fin_cases a <;> decide) _

/-- The arrays the body reads at the grid point. -/
theorem ins_eq : (⟨iblk m c 0 pt, iblk m c 1 pt, iblk m c 2 pt, iblk m c 3 pt, iblk m c 4 pt, iblk m c 5 pt, iblk m c 6 pt, iblk m c 7 pt, iblk m c 8 pt, iblk m c 9 pt, iblk m c 10 pt, iblk m c 11 pt, iblk m c 12 pt, iblk m c 13 pt, iblk m c 14 pt, iblk m c 15 pt, iblk m c 16 pt, iblk m c 17 pt, iblk m c 18 pt, iblk m c 19 pt, iblk m c 20 pt, iblk m c 21 pt, iblk m c 22 pt, iblk m c 23 pt⟩ : Ins F) = ins m c := by
  rw [ins, block0, block1, block2, block3, block4, block5, block6, block7, block8, block9, block10, block11, block12, block13, block14, block15, block16, block17, block18, block19, block20, block21, block22, block23]

theorem out24 : (outsAt0 m c pt).1 = fun _ => chosen (ins m c) :=
  (word24 c (ms0_0 pt) (hs0_0 pt) (ms0_1 pt) (hs0_1 pt) (ms0_2 pt) (hs0_2 pt) (ms0_3 pt) (hs0_3 pt) (ms0_4 pt) (hs0_4 pt) (ms0_5 pt) (hs0_5 pt) (ms0_6 pt) (hs0_6 pt) (ms0_7 pt) (hs0_7 pt) (ms0_8 pt) (hs0_8 pt) (ms0_9 pt) (hs0_9 pt) (ms0_10 pt) (hs0_10 pt) (ms0_11 pt) (hs0_11 pt) (ms0_12 pt) (hs0_12 pt) (ms0_13 pt) (hs0_13 pt) (ms0_14 pt) (hs0_14 pt) (ms0_15 pt) (hs0_15 pt) (ms0_16 pt) (hs0_16 pt) (ms0_17 pt) (hs0_17 pt) (ms0_18 pt) (hs0_18 pt) (ms0_19 pt) (hs0_19 pt) (ms0_20 pt) (hs0_20 pt) (ms0_21 pt) (hs0_21 pt) (ms0_22 pt) (hs0_22 pt) (ms0_23 pt) (hs0_23 pt) (ms0_24 pt) (hs0_24 pt) (ms0_25 pt) (hs0_25 pt) (ms0_26 pt) (hs0_26 pt) (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (iblk m c 12 pt) (iblk m c 13 pt) (iblk m c 14 pt) (iblk m c 15 pt) (iblk m c 16 pt) (iblk m c 17 pt) (iblk m c 18 pt) (iblk m c 19 pt) (iblk m c 20 pt) (iblk m c 21 pt) (iblk m c 22 pt) (iblk m c 23 pt)).trans
    (congrArg (fun i : Ins F => (fun _ : S1x1.Idx => chosen i)) (ins_eq m c))

theorem out25 : (outsAt0 m c pt).2.1 = fun _ => k0_pay13 (total (ins m c)) :=
  (word25 c (ms0_0 pt) (hs0_0 pt) (ms0_1 pt) (hs0_1 pt) (ms0_2 pt) (hs0_2 pt) (ms0_3 pt) (hs0_3 pt) (ms0_4 pt) (hs0_4 pt) (ms0_5 pt) (hs0_5 pt) (ms0_6 pt) (hs0_6 pt) (ms0_7 pt) (hs0_7 pt) (ms0_8 pt) (hs0_8 pt) (ms0_9 pt) (hs0_9 pt) (ms0_10 pt) (hs0_10 pt) (ms0_11 pt) (hs0_11 pt) (ms0_12 pt) (hs0_12 pt) (ms0_13 pt) (hs0_13 pt) (ms0_14 pt) (hs0_14 pt) (ms0_15 pt) (hs0_15 pt) (ms0_16 pt) (hs0_16 pt) (ms0_17 pt) (hs0_17 pt) (ms0_18 pt) (hs0_18 pt) (ms0_19 pt) (hs0_19 pt) (ms0_20 pt) (hs0_20 pt) (ms0_21 pt) (hs0_21 pt) (ms0_22 pt) (hs0_22 pt) (ms0_23 pt) (hs0_23 pt) (ms0_24 pt) (hs0_24 pt) (ms0_25 pt) (hs0_25 pt) (ms0_26 pt) (hs0_26 pt) (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (iblk m c 12 pt) (iblk m c 13 pt) (iblk m c 14 pt) (iblk m c 15 pt) (iblk m c 16 pt) (iblk m c 17 pt) (iblk m c 18 pt) (iblk m c 19 pt) (iblk m c 20 pt) (iblk m c 21 pt) (iblk m c 22 pt) (iblk m c 23 pt)).trans
    (congrArg (fun i : Ins F => (fun _ : S1x1.Idx => k0_pay13 (total i))) (ins_eq m c))

theorem out26 : (outsAt0 m c pt).2.2 = fun _ => critic (ins m c) :=
  (word26 c (ms0_0 pt) (hs0_0 pt) (ms0_1 pt) (hs0_1 pt) (ms0_2 pt) (hs0_2 pt) (ms0_3 pt) (hs0_3 pt) (ms0_4 pt) (hs0_4 pt) (ms0_5 pt) (hs0_5 pt) (ms0_6 pt) (hs0_6 pt) (ms0_7 pt) (hs0_7 pt) (ms0_8 pt) (hs0_8 pt) (ms0_9 pt) (hs0_9 pt) (ms0_10 pt) (hs0_10 pt) (ms0_11 pt) (hs0_11 pt) (ms0_12 pt) (hs0_12 pt) (ms0_13 pt) (hs0_13 pt) (ms0_14 pt) (hs0_14 pt) (ms0_15 pt) (hs0_15 pt) (ms0_16 pt) (hs0_16 pt) (ms0_17 pt) (hs0_17 pt) (ms0_18 pt) (hs0_18 pt) (ms0_19 pt) (hs0_19 pt) (ms0_20 pt) (hs0_20 pt) (ms0_21 pt) (hs0_21 pt) (ms0_22 pt) (hs0_22 pt) (ms0_23 pt) (hs0_23 pt) (ms0_24 pt) (hs0_24 pt) (ms0_25 pt) (hs0_25 pt) (ms0_26 pt) (hs0_26 pt) (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (iblk m c 12 pt) (iblk m c 13 pt) (iblk m c 14 pt) (iblk m c 15 pt) (iblk m c 16 pt) (iblk m c 17 pt) (iblk m c 18 pt) (iblk m c 19 pt) (iblk m c 20 pt) (iblk m c 21 pt) (iblk m c 22 pt) (iblk m c 23 pt)).trans
    (congrArg (fun i : Ins F => (fun _ : S1x1.Idx => critic i)) (ins_eq m c))

theorem final24 : (dats m 0 c).arrAt 24 cfg0.N = fun _ => chosen (ins m c) := by
  have hb := Value.blocks24 m c pt (by decide)
  rw [Value.flushed24, out24] at hb
  exact (Memref.read_access_unit_zero (Elt F) main_v22_0 (funext fun a => by fin_cases a <;> decide) (fun a => by fin_cases a <;> decide) _).symm.trans hb

theorem final25 : (dats m 0 c).arrAt 25 cfg0.N = fun _ => k0_pay13 (total (ins m c)) := by
  have hb := Value.blocks25 m c pt (by decide)
  rw [Value.flushed25, out25] at hb
  exact (Memref.read_access_unit_zero (Elt F) main_v22_1 (funext fun a => by fin_cases a <;> decide) (fun a => by fin_cases a <;> decide) _).symm.trans hb

theorem final26 : (dats m 0 c).arrAt 26 cfg0.N = fun _ => critic (ins m c) := by
  have hb := Value.blocks26 m c pt (by decide)
  rw [Value.flushed26, out26] at hb
  exact (Memref.read_access_unit_zero (Elt F) main_v22_2 (funext fun a => by fin_cases a <;> decide) (fun a => by fin_cases a <;> decide) _).symm.trans hb

end

end Cert.KernelIdeal.Hand
-- ==== Proof.KernelHost.lean ====
module

public import proofs.«01_k».proof.Proof.KernelOut
public import Idealize.ShloMosaic.Lib.StableHlo.RunClose

/-!
What the host operations before the kernel leave in the arrays that they write.
-/

@[expose] public section

set_option maxHeartbeats 4000000
set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Named F]
variable (m : (ℓ : Loc nD τ sig) → Buf (Elt F) ℓ) (c : Dev nD)

theorem V_v2 : V m c main_v2 = select (transpose S2048x32 [1, 0] (m ((c : Thread nD τ).loc main_arg2) : (⟨S32x2048, .i1⟩ : BufTy).Contents (Elt F)) transposes_S32x2048_S2048x32_1_0)
      (broadcastInDim S2048x32 ![] bcast_S_S2048x32 (constant S_ .f32 0x00000000#32)) (broadcastInDim S2048x32 ![] bcast_S_S2048x32 (constant S_ .f32 0x3F800000#32)) := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v3 : V m c main_v3 = broadcastInDim S256x32 ![0, 1] bcast_S256x1_S256x32_0_1 (m ((c : Thread nD τ).loc main_arg16) : (⟨S256x1, .f32⟩ : BufTy).Contents (Elt F)) := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v9 : V m c main_v9 = uitofp .f32 (cmpi .eq (addi (iotaInDim S32x32 32 0) (broadcastInDim S32x32 ![] bcast_S_S32x32 (constantI S_ 32 0#32))) (iotaInDim S32x32 32 1)) := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v10 : V m c main_v10 = shapeCast S1x128 (m ((c : Thread nD τ).loc main_arg5) : (⟨S128, .f32⟩ : BufTy).Contents (Elt F)) shapeCasts_S128_S1x128 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v11 : V m c main_v11 = shapeCast S1x128 (m ((c : Thread nD τ).loc main_arg7) : (⟨S128, .f32⟩ : BufTy).Contents (Elt F)) shapeCasts_S128_S1x128 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v12 : V m c main_v12 = shapeCast S1x128 (m ((c : Thread nD τ).loc main_arg9) : (⟨S128, .f32⟩ : BufTy).Contents (Elt F)) shapeCasts_S128_S1x128 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v13 : V m c main_v13 = shapeCast S1x128 (m ((c : Thread nD τ).loc main_arg11) : (⟨S128, .f32⟩ : BufTy).Contents (Elt F)) shapeCasts_S128_S1x128 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v14 : V m c main_v14 = extractStridedSlice S128x256 ![0, 0] (m ((c : Thread nD τ).loc main_arg12) : (⟨S256x256, .f32⟩ : BufTy).Contents (Elt F)) slices_S256x256_S128x256_0_0 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v15 : V m c main_v15 = extractStridedSlice S128x256 ![128, 0] (m ((c : Thread nD τ).loc main_arg12) : (⟨S256x256, .f32⟩ : BufTy).Contents (Elt F)) slices_S256x256_S128x256_128_0 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v16 : V m c main_v16 = shapeCast S1x256 (m ((c : Thread nD τ).loc main_arg13) : (⟨S256, .f32⟩ : BufTy).Contents (Elt F)) shapeCasts_S256_S1x256 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v17 : V m c main_v17 = shapeCast S1x256 (m ((c : Thread nD τ).loc main_arg15) : (⟨S256, .f32⟩ : BufTy).Contents (Elt F)) shapeCasts_S256_S1x256 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v18 : V m c main_v18 = shapeCast S1x256 (m ((c : Thread nD τ).loc main_arg19) : (⟨S256, .f32⟩ : BufTy).Contents (Elt F)) shapeCasts_S256_S1x256 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v19 : V m c main_v19 = shapeCast S1x256 (m ((c : Thread nD τ).loc main_arg21) : (⟨S256, .f32⟩ : BufTy).Contents (Elt F)) shapeCasts_S256_S1x256 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v20 : V m c main_v20 = transpose S1x256 [1, 0] (m ((c : Thread nD τ).loc main_arg22) : (⟨S256x1, .f32⟩ : BufTy).Contents (Elt F)) transposes_S256x1_S1x256_1_0 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

theorem V_v21 : V m c main_v21 = shapeCast S1x1 (m ((c : Thread nD τ).loc main_arg23) : (⟨S1, .f32⟩ : BufTy).Contents (Elt F)) shapeCasts_S1_S1x1 := by
  simp only [V, hostOps0, hostOps0_1, hostOps0_2, List.flatten_cons, List.flatten_nil, List.append_nil, List.cons_append, List.nil_append,
    TRef.unary, TRef.ternary, TRef.toBuf, TRef.ofBuf, cast_eq]
  after_results_entrywise [cast_eq]

end Cert.KernelIdeal.Hand
-- ==== Proof.Net.lean ====
module

public import Idealize.ShloMosaic.Lib.Pointwise

/-!
The network's mathematics over the extended reals: feature layers of the cranes and the piles, the score of every
(pile, crane) pair, and the critic's value. Both programs are read as these functions.
-/

@[expose] public section

noncomputable section

namespace Cert.Net

open Idealize.ShloMosaic

/-- The exponential linear unit. -/
def elu (x : EReal) : EReal := if 0 < x then x else Ideal.exp x - 1

/-- A dense layer with its activation. -/
def layer {m k n : ℕ} (x : Fin m → Fin k → EReal) (W : Fin k → Fin n → EReal) (b : Fin n → EReal) (i : Fin m) (j : Fin n) : EReal :=
  elu ((∑ l, x i l * W l j) + b j)

/-- The network's inputs and parameters. -/
structure Params where
  crane : Fin 32 → Fin 128 → EReal
  pile : Fin 2048 → Fin 128 → EReal
  allowed : Fin 2048 → Fin 32 → Prop
  Wc0 : Fin 128 → Fin 128 → EReal
  bc0 : Fin 128 → EReal
  Wc1 : Fin 128 → Fin 128 → EReal
  bc1 : Fin 128 → EReal
  Wp0 : Fin 128 → Fin 128 → EReal
  bp0 : Fin 128 → EReal
  Wp1 : Fin 128 → Fin 128 → EReal
  bp1 : Fin 128 → EReal
  A0 : Fin 256 → Fin 256 → EReal
  A0b : Fin 256 → EReal
  A1 : Fin 256 → Fin 256 → EReal
  A1b : Fin 256 → EReal
  A2 : Fin 256 → EReal
  A2b : EReal
  C0 : Fin 256 → Fin 256 → EReal
  C0b : Fin 256 → EReal
  C1 : Fin 256 → Fin 256 → EReal
  C1b : Fin 256 → EReal
  C2 : Fin 256 → EReal
  C2b : EReal

namespace Params

variable (P : Params)

/-- The cranes' features. -/
def hc : Fin 32 → Fin 128 → EReal := layer (layer P.crane P.Wc0 P.bc0) P.Wc1 P.bc1
/-- The piles' features. -/
def hp : Fin 2048 → Fin 128 → EReal := layer (layer P.pile P.Wp0 P.bp0) P.Wp1 P.bp1
/-- The crane rows of the first pair layer's matrix. -/
def A0c (k : Fin 128) (j : Fin 256) : EReal := P.A0 ⟨k.val, by omega⟩ j
/-- The pile rows of the first pair layer's matrix. -/
def A0p (k : Fin 128) (j : Fin 256) : EReal := P.A0 ⟨128 + k.val, by omega⟩ j
/-- The first pair layer. -/
def h1 (p : Fin 2048) (c : Fin 32) (j : Fin 256) : EReal :=
  elu (((∑ k, P.hc c k * P.A0c k j) + ∑ k, P.hp p k * P.A0p k j) + P.A0b j)
/-- The second pair layer. -/
def h2 (p : Fin 2048) : Fin 32 → Fin 256 → EReal := layer (P.h1 p) P.A1 P.A1b
/-- The score of a pair, without its last bias. -/
def score (p : Fin 2048) (c : Fin 32) : EReal := ∑ k, P.h2 p c k * P.A2 k
open Classical in
/-- The score of a pair, `⊥` where the pair is forbidden. -/
def masked (p : Fin 2048) (c : Fin 32) : EReal := if P.allowed p c then P.score p c else ⊥
/-- The largest score. -/
def top : EReal := Finset.univ.sup fun q : Fin 2048 × Fin 32 => P.masked q.1 q.2
/-- The critic's input: the means of the cranes' and of the piles' features. -/
def mean (k : Fin 256) : EReal :=
  if h : k.val < 128 then Ideal.div (∑ c, P.hc c ⟨k.val, h⟩) (Ideal.ofBits .f32 0x42000000#32)
  else Ideal.div (∑ p, P.hp p ⟨k.val - 128, by omega⟩) (Ideal.ofBits .f32 0x45000000#32)
/-- The critic's hidden layers. -/
def critic2 : Fin 256 → EReal := layer (layer (fun _ : Fin 1 => P.mean) P.C0 P.C0b) P.C1 P.C1b 0
/-- The critic's value. -/
def value : EReal := (∑ k, P.critic2 k * P.C2 k) + P.C2b

end Params

end Cert.Net
-- ==== Proof.KernelMath.lean ====
module

public import proofs.«01_k».proof.Proof.KernelVals
public import proofs.«01_k».proof.Proof.Net

/-!
The kernel's values over the extended reals: each payload read at an index is the network's function there.
-/

@[expose] public section

set_option maxRecDepth 16384

noncomputable section

namespace Cert.KernelIdeal.Hand

open Cert.KernelIdeal Cert.KernelIdeal.Gen Idealize.ShloMosaic Cert.Net

open Classical in
/-- The kernel's arrays hold the network's inputs and parameters. -/
structure Reads (x : Ins Ideal) (P : Params) : Prop where
  crane : ∀ i k, x.x0 (ix2 i k) = P.crane i k
  pile : ∀ i k, x.x1 (ix2 i k) = P.pile i k
  bias : ∀ p c, x.x2 (ix2 p c) = if P.allowed p c then 0 else 1
  Wc0 : ∀ i k, x.x3 (ix2 i k) = P.Wc0 i k
  bc0 : ∀ k, x.x4 (ix2 0 k) = P.bc0 k
  Wc1 : ∀ i k, x.x5 (ix2 i k) = P.Wc1 i k
  bc1 : ∀ k, x.x6 (ix2 0 k) = P.bc1 k
  Wp0 : ∀ i k, x.x7 (ix2 i k) = P.Wp0 i k
  bp0 : ∀ k, x.x8 (ix2 0 k) = P.bp0 k
  Wp1 : ∀ i k, x.x9 (ix2 i k) = P.Wp1 i k
  bp1 : ∀ k, x.x10 (ix2 0 k) = P.bp1 k
  A0c : ∀ i k, x.x11 (ix2 i k) = P.A0c i k
  A0p : ∀ i k, x.x12 (ix2 i k) = P.A0p i k
  A0b : ∀ k, x.x13 (ix2 0 k) = P.A0b k
  A1 : ∀ i k, x.x14 (ix2 i k) = P.A1 i k
  A1b : ∀ k, x.x15 (ix2 0 k) = P.A1b k
  A2 : ∀ k c, x.x16 (ix2 k c) = P.A2 k
  eye : ∀ a b, x.x17 (ix2 a b) = if a = b then 1 else 0
  C0 : ∀ i k, x.x18 (ix2 i k) = P.C0 i k
  C0b : ∀ k, x.x19 (ix2 0 k) = P.C0b k
  C1 : ∀ i k, x.x20 (ix2 i k) = P.C1 i k
  C1b : ∀ k, x.x21 (ix2 0 k) = P.C1b k
  C2 : ∀ k, x.x22 (ix2 0 k) = P.C2 k
  C2b : x.x23 (ix2 0 0) = P.C2b

variable {x : Ins Ideal} {P : Params} (h : Reads x P)
include h

theorem craneF_apply (c : Fin 32) (j : Fin 128) : craneF x (ix2 c j) = P.hc c j := by
  pointwise [craneF, k0_pay2]
  simp only [h.crane, h.Wc0, h.bc0, h.Wc1, h.bc1]
  rfl

theorem pileF_apply (p : Fin 2048) (j : Fin 128) : pileF x (ix2 p j) = P.hp p j := by
  pointwise [pileF, k0_pay4]
  simp only [h.pile, h.Wp0, h.bp0, h.Wp1, h.bp1]
  rfl

theorem craneU_apply (c : Fin 32) (j : Fin 256) : craneU x (ix2 c j) = (∑ k, P.hc c k * P.A0c k j) + P.A0b j := by
  have e : craneU x = k0_pay3 x.x0 x.x3 x.x4 x.x5 x.x6 x.x11 x.x13 := rfl
  pointwise [e, k0_pay3]
  simp only [h.A0c, h.A0b]
  exact congrArg (· + _) (Finset.sum_congr rfl fun k _ => congrArg (· * _) (craneF_apply h c k))

theorem pairPre_apply (p : Fin 2048) (c : Fin 32) (j : Fin 256) :
    pairPre x (ix2 (⟨p.val * 32 + c.val, by omega⟩ : Fin 65536) j) = ∑ k, P.h1 p c k * P.A1 k j := by
  have e (k : Fin 256) : (∑ l, k0_pay4 x.x1 x.x7 (constant S2048x128 .f32 0x00000000#32) x.x8 x.x9 x.x10 (ix2 p l) * x.x12 (ix2 l k))
      + craneU x (ix2 c k) = ((∑ l, P.hc c l * P.A0c l k) + ∑ l, P.hp p l * P.A0p l k) + P.A0b k := by
    have f : (∑ l, k0_pay4 x.x1 x.x7 (constant S2048x128 .f32 0x00000000#32) x.x8 x.x9 x.x10 (ix2 p l) * x.x12 (ix2 l k))
        = ∑ l, P.hp p l * P.A0p l k := Finset.sum_congr rfl fun l _ => congrArg₂ (· * ·) (pileF_apply h p l) (h.A0p l k)
    rw [f, craneU_apply h, ← add_assoc, add_comm (∑ l, P.hp p l * P.A0p l k)]
  pointwise [pairPre, k0_pay5]
  simp only [e, h.A1]
  rfl

theorem scores_apply (p : Fin 2048) (c : Fin 32) : scores x (ix2 p c) = P.masked p c := by
  have n : (Named.named κ "masked" 0xF149F2CA#32 : Ideal .f32) = (⊥ : EReal) := rfl
  pointwise [scores, k0_pay6]
  simp only [pairPre_apply h, h.A1b, h.A2, h.eye, h.bias, n, mul_ite, mul_one, mul_zero, Finset.sum_ite_eq', Finset.mem_univ, if_true]
  unfold Params.masked
  split
  · rw [zero_mul, add_zero]; rfl
  · rw [one_mul, EReal.add_bot]

omit h in
/-- The maximum over all pairs, as the kernel takes it. -/
theorem max_pairs (z : FVec Ideal S2048x32 .f32) :
    extractAt ![0, 0, 0] (shapeCast S1x1x1 (multiReduction (F := Ideal) .maximumf [1, 2] S1 (shapeCast S1x2048x32 z shapeCasts_S2048x32_S1x2048x32)
      0xFF800000#32 reduces_S1x2048x32_S1 (.inl rfl) rfl) shapeCasts_S1_S1x1x1) inpos_S1x1x1_p0_0_0
      = Finset.univ.sup fun q : Fin 2048 × Fin 32 => z (ix2 q.1 q.2) := by
  have b : Ideal.ofBits .f32 0xFF800000#32 = (⊥ : EReal) := by simp [Ideal.ofBits, Ideal.ieee]
  pointwise
  rw [b]
  rfl

omit h in
/-- The sum over all pairs, as the kernel takes it. -/
theorem sum_pairs (z : FVec Ideal S2048x32 .f32) :
    extractAt ![0, 0, 0] (shapeCast S1x1x1 (multiReduction (F := Ideal) .add [1, 2] S1 (shapeCast S1x2048x32 z shapeCasts_S2048x32_S1x2048x32)
      0x00000000#32 reduces_S1x2048x32_S1 (.inl rfl) rfl) shapeCasts_S1_S1x1x1) inpos_S1x1x1_p0_0_0
      = ∑ p : Fin 2048, ∑ c : Fin 32, z (ix2 p c) := by
  pointwise

theorem top_eq : k0_pay7 (pairPre x) x.x15 x.x16 x.x17 x.x2 = P.top :=
by
  unfold k0_pay7
  refine (max_pairs _).trans ?_
  exact congrArg (Finset.univ.sup) (funext fun q => scores_apply h q.1 q.2)

omit h in
/-- The sum of exponentials that the kernel takes, from the scores `z` and their maximum `t`. -/
theorem exp_pairs (z : FVec Ideal S2048x32 .f32) (t : Ideal .f32) :
    extractAt ![0, 0, 0] (shapeCast S1x1x1 (multiReduction (F := Ideal) .add [1, 2] S1
      (shapeCast S1x2048x32 (exp (subf z (broadcast S2048x32 t))) shapeCasts_S2048x32_S1x2048x32)
      0x00000000#32 reduces_S1x2048x32_S1 (.inl rfl) rfl) shapeCasts_S1_S1x1x1) inpos_S1x1x1_p0_0_0
      = ∑ p : Fin 2048, ∑ c : Fin 32, Ideal.exp (z (ix2 p c) - t) := by
  rw [sum_pairs]
  pointwise

theorem total_eq : total x = ∑ p, ∑ c, Ideal.exp (P.masked p c - P.top) := by
  have u : total x = ∑ p : Fin 2048, ∑ c : Fin 32, Ideal.exp (k0_pay6 (pairPre x) x.x15 x.x16 x.x17 x.x2 (ix2 p c) - k0_pay7 (pairPre x) x.x15 x.x16 x.x17 x.x2) := by
    unfold total k0_pay8
    exact exp_pairs _ _
  have e (p : Fin 2048) (c : Fin 32) : k0_pay6 (pairPre x) x.x15 x.x16 x.x17 x.x2 (ix2 p c) = P.masked p c := scores_apply h p c
  simp only [u, e, top_eq h]

omit h in
/-- Zero less a logarithm, as the kernel spells it. -/
theorem neg_log (t : Ideal .f32) : k0_pay13 (F := Ideal) t = 0 - Ideal.log t := by
  pointwise [k0_pay13]
  rfl

/-- The log-probability that the kernel stores. -/
theorem logp_eq : k0_pay13 (total x) = 0 - Ideal.log (∑ p, ∑ c, Ideal.exp (P.masked p c - P.top)) := by
  rw [neg_log, total_eq h]

open Classical in
theorem chosen_eq : chosen x = (Finset.univ : Finset (Fin 2048 × Fin 32)).fold IntOp.minsi 2147483647#32 fun q =>
    if P.top ≤ P.masked q.1 q.2 then BitVec.ofNat 32 (q.1.val * 32 + q.2.val) else 2147483647#32 := by
  have e (q : Fin 2048 × Fin 32) : k0_pay6 (pairPre x) x.x15 x.x16 x.x17 x.x2 (ix2 q.1 q.2) = P.masked q.1 q.2 := scores_apply h q.1 q.2
  pointwise [chosen, attains, k0_pay12, k0_pay11, k0_pay10, k0_pay9]
  simp only [top_eq h, e]
  refine congrArg (fun f => Finset.fold IntOp.minsi 2147483647#32 f Finset.univ) (funext fun q => ?_)
  have w : IntOp.addi (IntOp.muli (BitVec.ofNat 32 q.1.val) 32#32) (BitVec.ofNat 32 q.2.val) = BitVec.ofNat 32 (q.1.val * 32 + q.2.val) := by
    have := q.1.isLt
    have := q.2.isLt
    apply BitVec.eq_of_toNat_eq
    simp [IntOp.addi, IntOp.muli]
  simp only [w]

theorem critic_eq : critic x = P.value := by
  have sp (f : Fin 256 → EReal) : ∑ k, f k = (∑ k : Fin 128, f ⟨k.val, by omega⟩) + ∑ k : Fin 128, f ⟨128 + k.val, by omega⟩ := by
    exact Fin.sum_univ_add (a := 128) (b := 128) f
  have lo (k : Fin 128) : P.mean ⟨k.val, by omega⟩ = Ideal.div (∑ c, P.hc c k) (Ideal.ofBits .f32 0x42000000#32) := by
    simp [Params.mean]
  have hi (k : Fin 128) : P.mean ⟨128 + k.val, by omega⟩ = Ideal.div (∑ p, P.hp p k) (Ideal.ofBits .f32 0x45000000#32) := by
    simp [Params.mean]
  have sp' (j : Fin 256) : (∑ k : Fin 128, P.mean ⟨k.val, by omega⟩ * P.C0 ⟨k.val, by omega⟩ j)
      + ∑ k : Fin 128, P.mean ⟨128 + k.val, by omega⟩ * P.C0 ⟨128 + k.val, by omega⟩ j = ∑ k, P.mean k * P.C0 k j :=
    (sp fun k => P.mean k * P.C0 k j).symm
  pointwise [critic, criticPre, k0_pay1, k0_pay15, k0_pay14]
  simp only [craneF_apply h, pileF_apply h, h.C0, h.C0b, h.C1, h.C1b, h.C2, h.C2b, ← lo, ← hi]
  simp only [sp']
  simp only [Params.value, Params.critic2, layer, elu, Finset.univ_unique, Finset.sum_singleton]

end Cert.KernelIdeal.Hand
-- ==== Proof.KernelReads.lean ====
module

public import proofs.«01_k».proof.Proof.KernelHost
public import proofs.«01_k».proof.Proof.KernelMath
public import Idealize.ShloMosaic.Lib.Pointwise

/-!
The network's inputs and parameters as the kernel's arguments hold them, and how the kernel's own arrays read them.
-/

@[expose] public section

set_option maxHeartbeats 4000000
set_option maxRecDepth 16384

noncomputable section

namespace Cert.KernelIdeal.Hand

open Cert.KernelIdeal Cert.KernelIdeal.Gen Cert.Net Idealize.ShloMosaic Idealize.ShloMosaic.TcCoe Idealize.SL.Sem

variable (m : (ℓ : Loc nD τ sig) → Buf (Elt Ideal) ℓ) (c : Dev nD)

/-- The arguments, as the network's inputs and parameters. -/
def params : Params where
  crane i k := (m ((c : Thread nD τ).loc main_arg0) : (⟨S32x128, .f32⟩ : BufTy).Contents (Elt Ideal)) (ix2 i k)
  pile i k := (m ((c : Thread nD τ).loc main_arg1) : (⟨S2048x128, .f32⟩ : BufTy).Contents (Elt Ideal)) (ix2 i k)
  allowed p c' := (m ((c : Thread nD τ).loc main_arg2) : (⟨S32x2048, .i1⟩ : BufTy).Contents (Elt Ideal)) (ix2 c' p) = 1#1
  Wc0 i k := (m ((c : Thread nD τ).loc main_arg4) : (⟨S128x128, .f32⟩ : BufTy).Contents (Elt Ideal)) (ix2 i k)
  bc0 k := (m ((c : Thread nD τ).loc main_arg5) : (⟨S128, .f32⟩ : BufTy).Contents (Elt Ideal)) (ix1 k)
  Wc1 i k := (m ((c : Thread nD τ).loc main_arg6) : (⟨S128x128, .f32⟩ : BufTy).Contents (Elt Ideal)) (ix2 i k)
  bc1 k := (m ((c : Thread nD τ).loc main_arg7) : (⟨S128, .f32⟩ : BufTy).Contents (Elt Ideal)) (ix1 k)
  Wp0 i k := (m ((c : Thread nD τ).loc main_arg8) : (⟨S128x128, .f32⟩ : BufTy).Contents (Elt Ideal)) (ix2 i k)
  bp0 k := (m ((c : Thread nD τ).loc main_arg9) : (⟨S128, .f32⟩ : BufTy).Contents (Elt Ideal)) (ix1 k)
  Wp1 i k := (m ((c : Thread nD τ).loc main_arg10) : (⟨S128x128, .f32⟩ : BufTy).Contents (Elt Ideal)) (ix2 i k)
  bp1 k := (m ((c : Thread nD τ).loc main_arg11) : (⟨S128, .f32⟩ : BufTy).Contents (Elt Ideal)) (ix1 k)
  A0 i k := (m ((c : Thread nD τ).loc main_arg12) : (⟨S256x256, .f32⟩ : BufTy).Contents (Elt Ideal)) (ix2 i k)
  A0b k := (m ((c : Thread nD τ).loc main_arg13) : (⟨S256, .f32⟩ : BufTy).Contents (Elt Ideal)) (ix1 k)
  A1 i k := (m ((c : Thread nD τ).loc main_arg14) : (⟨S256x256, .f32⟩ : BufTy).Contents (Elt Ideal)) (ix2 i k)
  A1b k := (m ((c : Thread nD τ).loc main_arg15) : (⟨S256, .f32⟩ : BufTy).Contents (Elt Ideal)) (ix1 k)
  A2 k := (m ((c : Thread nD τ).loc main_arg16) : (⟨S256x1, .f32⟩ : BufTy).Contents (Elt Ideal)) (ix2 k 0)
  A2b := (m ((c : Thread nD τ).loc main_arg17) : (⟨S1, .f32⟩ : BufTy).Contents (Elt Ideal)) (ix1 0)
  C0 i k := (m ((c : Thread nD τ).loc main_arg18) : (⟨S256x256, .f32⟩ : BufTy).Contents (Elt Ideal)) (ix2 i k)
  C0b k := (m ((c : Thread nD τ).loc main_arg19) : (⟨S256, .f32⟩ : BufTy).Contents (Elt Ideal)) (ix1 k)
  C1 i k := (m ((c : Thread nD τ).loc main_arg20) : (⟨S256x256, .f32⟩ : BufTy).Contents (Elt Ideal)) (ix2 i k)
  C1b k := (m ((c : Thread nD τ).loc main_arg21) : (⟨S256, .f32⟩ : BufTy).Contents (Elt Ideal)) (ix1 k)
  C2 k := (m ((c : Thread nD τ).loc main_arg22) : (⟨S256x1, .f32⟩ : BufTy).Contents (Elt Ideal)) (ix2 k 0)
  C2b := (m ((c : Thread nD τ).loc main_arg23) : (⟨S1, .f32⟩ : BufTy).Contents (Elt Ideal)) (ix1 0)

theorem zero_bits : (Ideal.ofBits .f32 0x00000000#32 : EReal) = 0 := by simp [Ideal.ofBits, Ideal.ieee]

theorem one_bits : (Ideal.ofBits .f32 0x3F800000#32 : EReal) = 1 := by
  simp [Ideal.ofBits, Ideal.ieee, -EReal.coe_mul]; norm_num

theorem bit_eq_zero {b : BitVec 1} (h : ¬ b = 1#1) : b = 0#1 := by
  revert h; revert b; decide

theorem bias_apply (p : Fin 2048) (k : Fin 32) : (ins m c).x2 (ix2 p k) = open Classical in if (params m c).allowed p k then 0 else 1 := by
  show V m c main_v2 (ix2 p k) = _
  rw [V_v2]
  pointwise []
  by_cases h : (params m c).allowed p k
  · rw [if_pos h, show (m ((c : Thread nD τ).loc main_arg2) : (⟨S32x2048, .i1⟩ : BufTy).Contents (Elt Ideal)) (ix2 k p) = 1#1 from h]
    rfl
  · rw [if_neg h, bit_eq_zero h]
    rfl

theorem eye_apply (a b : Fin 32) : (ins m c).x17 (ix2 a b) = if a = b then 1 else 0 := by
  show V m c main_v9 (ix2 a b) = _
  rw [V_v9]
  pointwise []
  by_cases h : a = b
  · subst h
    rw [if_pos rfl]
    have e : IntOp.cmpi CmpIPredicate.eq (IntOp.addi (BitVec.ofNat 32 a.val) 0#32) (BitVec.ofNat 32 a.val) = 1#1 := by
      simp [IntOp.cmpi, IntOp.addi]
    rw [e]
    show ((((1#1 : BitVec 1).toNat : ℝ)) : EReal) = 1
    simp
  · rw [if_neg h]
    have n : (BitVec.ofNat 32 a.val : BitVec 32) ≠ BitVec.ofNat 32 b.val := by
      intro e
      have := congrArg BitVec.toNat e
      simp only [BitVec.toNat_ofNat] at this
      exact h (Fin.ext (by omega))
    have e : IntOp.cmpi CmpIPredicate.eq (IntOp.addi (BitVec.ofNat 32 a.val) 0#32) (BitVec.ofNat 32 b.val) = 0#1 := by
      simp only [IntOp.cmpi, IntOp.addi, BitVec.add_zero]
      rw [beq_eq_false_iff_ne.mpr n]
      rfl
    rw [e]
    show ((((0#1 : BitVec 1).toNat : ℝ)) : EReal) = 0
    simp

theorem reads : Reads (ins m c) (params m c) where
  bias := bias_apply m c
  eye := eye_apply m c
  crane := fun i k => by
    show V m c main_arg0 (ix2 i k) = _
    rw [V_main_arg0]
    rfl
  pile := fun i k => by
    show V m c main_arg1 (ix2 i k) = _
    rw [V_main_arg1]
    rfl
  Wc0 := fun i k => by
    show V m c main_arg4 (ix2 i k) = _
    rw [V_main_arg4]
    rfl
  bc0 := fun k => by
    show V m c main_v10 (ix2 0 k) = _
    rw [V_v10]
    pointwise []
    rfl
  Wc1 := fun i k => by
    show V m c main_arg6 (ix2 i k) = _
    rw [V_main_arg6]
    rfl
  bc1 := fun k => by
    show V m c main_v11 (ix2 0 k) = _
    rw [V_v11]
    pointwise []
    rfl
  Wp0 := fun i k => by
    show V m c main_arg8 (ix2 i k) = _
    rw [V_main_arg8]
    rfl
  bp0 := fun k => by
    show V m c main_v12 (ix2 0 k) = _
    rw [V_v12]
    pointwise []
    rfl
  Wp1 := fun i k => by
    show V m c main_arg10 (ix2 i k) = _
    rw [V_main_arg10]
    rfl
  bp1 := fun k => by
    show V m c main_v13 (ix2 0 k) = _
    rw [V_v13]
    pointwise []
    rfl
  A0c := fun i k => by
    show V m c main_v14 (ix2 i k) = _
    rw [V_v14]
    pointwise []
    rfl
  A0p := fun i k => by
    show V m c main_v15 (ix2 i k) = _
    rw [V_v15]
    pointwise []
    rfl
  A0b := fun k => by
    show V m c main_v16 (ix2 0 k) = _
    rw [V_v16]
    pointwise []
    rfl
  A1 := fun i k => by
    show V m c main_arg14 (ix2 i k) = _
    rw [V_main_arg14]
    rfl
  A1b := fun k => by
    show V m c main_v17 (ix2 0 k) = _
    rw [V_v17]
    pointwise []
    rfl
  A2 := fun k c' => by
    show V m c main_v3 (ix2 k c') = _
    rw [V_v3]
    pointwise []
    rfl
  C0 := fun i k => by
    show V m c main_arg18 (ix2 i k) = _
    rw [V_main_arg18]
    rfl
  C0b := fun k => by
    show V m c main_v18 (ix2 0 k) = _
    rw [V_v18]
    pointwise []
    rfl
  C1 := fun i k => by
    show V m c main_arg20 (ix2 i k) = _
    rw [V_main_arg20]
    rfl
  C1b := fun k => by
    show V m c main_v19 (ix2 0 k) = _
    rw [V_v19]
    pointwise []
    rfl
  C2 := fun k => by
    show V m c main_v20 (ix2 0 k) = _
    rw [V_v20]
    pointwise []
    rfl
  C2b := by
    show V m c main_v21 (ix2 0 0) = _
    rw [V_v21]
    pointwise []
    rfl

end Cert.KernelIdeal.Hand
-- ==== Proof.Softmax.lean ====
module

public import proofs.«01_k».proof.Proof.Net

/-!
Over real inputs the scores are real numbers or `⊥`, and their maximum is attained. This is what the softmax and the
choice of the best pair need.
-/

@[expose] public section

set_option maxRecDepth 16384

noncomputable section

namespace Cert.Net

open Idealize.ShloMosaic

/-- `x` is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i

theorem IsReal.elu {x : EReal} : IsReal x → IsReal (elu x)
  | ⟨a, ha⟩ => by
    unfold Net.elu
    split
    · exact ⟨a, ha⟩
    · exact ⟨Real.exp a - 1, by rw [ha, Ideal.exp_coe, EReal.coe_sub, EReal.coe_one]⟩

theorem IsReal.layer {m k n : ℕ} {x : Fin m → Fin k → EReal} {W : Fin k → Fin n → EReal} {b : Fin n → EReal}
    (hx : ∀ i l, IsReal (x i l)) (hW : ∀ l j, IsReal (W l j)) (hb : ∀ j, IsReal (b j)) (i : Fin m) (j : Fin n) :
    IsReal (layer x W b i j) :=
  ((IsReal.sum _ _ fun l => (hx i l).mul (hW l j)).add (hb j)).elu

theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

theorem le_sup_all {ι : Type} [Fintype ι] (f : ι → EReal) (i : ι) : f i ≤ Finset.univ.sup f := Finset.le_sup (Finset.mem_univ i)

/-- Every input and parameter that the actor reads is a real number, and some pair is allowed. -/
structure Params.Ok (P : Params) : Prop where
  crane : ∀ i k, IsReal (P.crane i k)
  pile : ∀ i k, IsReal (P.pile i k)
  Wc0 : ∀ i k, IsReal (P.Wc0 i k)
  bc0 : ∀ k, IsReal (P.bc0 k)
  Wc1 : ∀ i k, IsReal (P.Wc1 i k)
  bc1 : ∀ k, IsReal (P.bc1 k)
  Wp0 : ∀ i k, IsReal (P.Wp0 i k)
  bp0 : ∀ k, IsReal (P.bp0 k)
  Wp1 : ∀ i k, IsReal (P.Wp1 i k)
  bp1 : ∀ k, IsReal (P.bp1 k)
  A0 : ∀ i k, IsReal (P.A0 i k)
  A0b : ∀ k, IsReal (P.A0b k)
  A1 : ∀ i k, IsReal (P.A1 i k)
  A1b : ∀ k, IsReal (P.A1b k)
  A2 : ∀ k, IsReal (P.A2 k)
  A2b : IsReal P.A2b
  some : ∃ p c, P.allowed p c

namespace Params

variable {P : Params} (h : P.Ok)
include h

theorem hc_real (i : Fin 32) (j : Fin 128) : IsReal (P.hc i j) :=
  IsReal.layer (IsReal.layer h.crane h.Wc0 h.bc0) h.Wc1 h.bc1 i j

theorem hp_real (i : Fin 2048) (j : Fin 128) : IsReal (P.hp i j) :=
  IsReal.layer (IsReal.layer h.pile h.Wp0 h.bp0) h.Wp1 h.bp1 i j

theorem h1_real (p : Fin 2048) (c : Fin 32) (j : Fin 256) : IsReal (P.h1 p c j) :=
  (((IsReal.sum _ _ fun k => (hc_real h c k).mul (h.A0 _ j)).add
    (IsReal.sum _ _ fun k => (hp_real h p k).mul (h.A0 _ j))).add (h.A0b j)).elu

theorem score_real (p : Fin 2048) (c : Fin 32) : IsReal (P.score p c) :=
  IsReal.sum _ _ fun k => (IsReal.layer (h1_real h p) h.A1 h.A1b c k).mul (h.A2 k)

theorem masked_cases (p : Fin 2048) (c : Fin 32) : P.masked p c = ⊥ ∨ IsReal (P.masked p c) := by
  unfold masked
  split
  · exact .inr (score_real h p c)
  · exact .inl rfl

omit h in
theorem masked_le_top (q : Fin 2048 × Fin 32) : P.masked q.1 q.2 ≤ P.top := by
  exact le_sup_all (fun q : Fin 2048 × Fin 32 => P.masked q.1 q.2) q

omit h in
theorem top_attained : ∃ q : Fin 2048 × Fin 32, P.masked q.1 q.2 = P.top :=
  have ⟨q, _, e⟩ := Finset.exists_mem_eq_sup Finset.univ Finset.univ_nonempty fun q : Fin 2048 × Fin 32 => P.masked q.1 q.2
  ⟨q, e.symm⟩

theorem top_real : IsReal P.top := by
  obtain ⟨q, e⟩ := top_attained (P := P)
  rw [← e]
  refine (masked_cases h q.1 q.2).resolve_left fun b => ?_
  obtain ⟨p, c, a⟩ := h.some
  obtain ⟨r, hr⟩ := score_real h p c
  have m : P.masked p c = (r : EReal) := by rw [masked, if_pos a, hr]
  have l := masked_le_top (P := P) (p, c)
  rw [← e, b, m] at l
  exact EReal.coe_ne_bot r (le_bot_iff.mp l)

omit h in
/-- The sum of exponentials that the softmax divides by. -/
def mass (P : Params) : EReal := ∑ p, ∑ c, Ideal.exp (P.masked p c - P.top)

theorem log_mass_real : IsReal (Ideal.log P.mass) := by
  obtain ⟨t, ht⟩ := top_real h
  have g (p : Fin 2048) (c : Fin 32) : ∃ r : ℝ, 0 ≤ r ∧ Ideal.exp (P.masked p c - P.top) = (r : EReal) := by
    rcases masked_cases h p c with e | ⟨a, e⟩
    · exact ⟨0, le_rfl, by rw [e, EReal.bot_sub, Ideal.exp_bot, EReal.coe_zero]⟩
    · exact ⟨Real.exp (a - t), (Real.exp_pos _).le, by rw [e, ht, ← EReal.coe_sub, Ideal.exp_coe]⟩
  choose r hr he using g
  obtain ⟨q, hq⟩ := top_attained (P := P)
  have one : r q.1 q.2 = 1 := by
    have := he q.1 q.2
    rw [hq, ht, ← EReal.coe_sub, sub_self, Ideal.exp_coe, Real.exp_zero] at this
    exact (EReal.coe_eq_coe_iff.mp this).symm
  have s : P.mass = ((∑ p, ∑ c, r p c : ℝ) : EReal) := by
    rw [mass, coe_sum]
    refine Finset.sum_congr rfl fun p _ => ?_
    rw [coe_sum]
    exact Finset.sum_congr rfl fun c _ => he p c
  have pos : 0 < ∑ p, ∑ c, r p c :=
    Finset.sum_pos' (fun p _ => Finset.sum_nonneg fun c _ => hr p c)
      ⟨q.1, Finset.mem_univ _, Finset.sum_pos' (fun c _ => hr _ c) ⟨q.2, Finset.mem_univ _, by rw [one]; exact one_pos⟩⟩
  rw [s, Ideal.log_coe, if_neg (not_le.mpr pos)]
  exact ⟨_, rfl⟩

/-- The log-probability of a pair. -/
def logp (P : Params) (p : Fin 2048) (c : Fin 32) : EReal := P.masked p c - P.top - Ideal.log P.mass

omit h in
theorem logp_congr {p p' : Fin 2048} {c c' : Fin 32} (e : P.masked p c = P.masked p' c') : P.logp p c = P.logp p' c' := by
  rw [logp, logp, e]

theorem logp_top {p : Fin 2048} {c : Fin 32} (e : P.masked p c = P.top) : P.logp p c = 0 - Ideal.log P.mass := by
  obtain ⟨t, ht⟩ := top_real h
  rw [logp, e, ht, ← EReal.coe_sub, sub_self, EReal.coe_zero]

/-- A pair whose log-probability no other exceeds attains the largest score. -/
theorem top_of_logp {p : Fin 2048} {c : Fin 32} (m : ∀ p' c', P.logp p' c' ≤ P.logp p c) : P.masked p c = P.top := by
  obtain ⟨q, hq⟩ := top_attained (P := P)
  obtain ⟨t, ht⟩ := top_real h
  obtain ⟨s, hs⟩ := log_mass_real h
  have l := m q.1 q.2
  rw [logp_top h hq, logp, hs, ht] at l
  rcases masked_cases h p c with e | ⟨a, e⟩
  · rw [e, EReal.bot_sub, EReal.bot_sub, ← EReal.coe_zero, ← EReal.coe_sub] at l
    exact absurd (le_bot_iff.mp l) (EReal.coe_ne_bot _)
  · refine le_antisymm (masked_le_top (p, c)) ?_
    rw [e, ← EReal.coe_zero, ← EReal.coe_sub, ← EReal.coe_sub, ← EReal.coe_sub, EReal.coe_le_coe_iff] at l
    rw [e, ht, EReal.coe_le_coe_iff]
    linarith

theorem bot_lt_logp_top : ∃ q : Fin 2048 × Fin 32, (⊥ : EReal) < P.logp q.1 q.2 := by
  obtain ⟨q, hq⟩ := top_attained (P := P)
  obtain ⟨s, hs⟩ := log_mass_real h
  refine ⟨q, ?_⟩
  rw [logp_top h hq, hs, ← EReal.coe_zero, ← EReal.coe_sub]
  exact EReal.bot_lt_coe _

end Params

/-- The flat number of a pair. -/
def flat (q : Fin 2048 × Fin 32) : Fin 65536 := ⟨q.1.val * 32 + q.2.val, by omega⟩

/-- Pairs and their flat numbers. -/
def flatEquiv : Fin 2048 × Fin 32 ≃ Fin 65536 where
  toFun := flat
  invFun n := (⟨n.val / 32, by omega⟩, ⟨n.val % 32, by omega⟩)
  left_inv q := Prod.ext (Fin.ext (by simp only [flat]; omega)) (Fin.ext (by simp only [flat]; omega))
  right_inv n := Fin.ext (by simp only [flat]; omega)

theorem toInt_flat (q : Fin 2048 × Fin 32) : (BitVec.ofNat 32 (q.1.val * 32 + q.2.val)).toInt = (q.1.val * 32 + q.2.val : ℕ) := by
  have := q.1.isLt
  have := q.2.isLt
  rw [BitVec.toInt_eq_toNat_of_lt] <;> rw [BitVec.toNat_ofNat] <;> omega

/-- A fold of signed minima is its start or one of its terms, and no term is below it. -/
theorem fold_minsi_on {ι : Type} [DecidableEq ι] (t : Finset ι) (f : ι → BitVec 32) (i : BitVec 32) :
    (t.fold IntOp.minsi i f = i ∨ ∃ q ∈ t, t.fold IntOp.minsi i f = f q) ∧ ∀ q ∈ t, (t.fold IntOp.minsi i f).toInt ≤ (f q).toInt := by
  have c (a b : BitVec 32) : (IntOp.minsi a b = a ∨ IntOp.minsi a b = b) ∧ (IntOp.minsi a b).toInt ≤ a.toInt ∧ (IntOp.minsi a b).toInt ≤ b.toInt := by
    unfold IntOp.minsi
    split <;> rename_i hs <;> simp [BitVec.slt, BitVec.sle] at hs ⊢ <;> omega
  induction t using Finset.induction_on with
  | empty => exact ⟨.inl rfl, by simp⟩
  | insert a t ha ih =>
    rw [Finset.fold_insert ha]
    have ⟨c1, c2, c3⟩ := c (f a) (t.fold IntOp.minsi i f)
    refine ⟨?_, fun q hq => ?_⟩
    · rcases c1 with e | e
      · exact .inr ⟨a, Finset.mem_insert_self _ _, e⟩
      · rw [e]
        exact ih.1.imp id fun ⟨q, hq, e⟩ => ⟨q, Finset.mem_insert_of_mem hq, e⟩
    · rcases Finset.mem_insert.mp hq with rfl | hq
      · exact c2
      · exact c3.trans (ih.2 q hq)

theorem fold_minsi {ι : Type} [Fintype ι] [DecidableEq ι] (f : ι → BitVec 32) (i : BitVec 32) :
    (Finset.univ.fold IntOp.minsi i f = i ∨ ∃ q, Finset.univ.fold IntOp.minsi i f = f q) ∧ ∀ q, (Finset.univ.fold IntOp.minsi i f).toInt ≤ (f q).toInt :=
  have ⟨h1, h2⟩ := fold_minsi_on Finset.univ f i
  ⟨h1.imp id fun ⟨q, _, e⟩ => ⟨q, e⟩, fun q => h2 q (Finset.mem_univ q)⟩

open Classical in
/-- The smallest flat number of a pair with the largest score, as a fold of signed minima. -/
theorem fold_eq_first (P : Params) (q : Fin 2048 × Fin 32) (e : P.masked q.1 q.2 = P.top)
    (m : ∀ q' : Fin 2048 × Fin 32, P.masked q'.1 q'.2 = P.top → q.1.val * 32 + q.2.val ≤ q'.1.val * 32 + q'.2.val) :
    ((Finset.univ : Finset (Fin 2048 × Fin 32)).fold IntOp.minsi 2147483647#32 fun q =>
      if P.top ≤ P.masked q.1 q.2 then BitVec.ofNat 32 (q.1.val * 32 + q.2.val) else 2147483647#32)
      = BitVec.ofNat 32 (q.1.val * 32 + q.2.val) := by
  have big : (2147483647#32 : BitVec 32).toInt = 2147483647 := by decide
  have lt (q : Fin 2048 × Fin 32) : q.1.val * 32 + q.2.val < 65536 := by
    have := q.1.isLt
    have := q.2.isLt
    omega
  obtain ⟨h1, h2⟩ := fold_minsi
    (fun q : Fin 2048 × Fin 32 => if P.top ≤ P.masked q.1 q.2 then BitVec.ofNat 32 (q.1.val * 32 + q.2.val) else 2147483647#32) 2147483647#32
  generalize (Finset.univ : Finset (Fin 2048 × Fin 32)).fold IntOp.minsi 2147483647#32 (fun q =>
      if P.top ≤ P.masked q.1 q.2 then BitVec.ofNat 32 (q.1.val * 32 + q.2.val) else 2147483647#32) = r at h1 h2 ⊢
  have hq := h2 q
  rw [if_pos e.ge, toInt_flat] at hq
  have := lt q
  rcases h1 with rfl | ⟨q', h1⟩
  · rw [big] at hq; omega
  · split at h1
    · rename_i t
      have t' : P.masked q'.1 q'.2 = P.top := le_antisymm (Params.masked_le_top q') t
      have := m q' t'
      rw [h1, toInt_flat] at hq
      rw [h1]
      congr 1
      omega
    · rw [h1, big] at hq; omega

end Cert.Net
-- ==== Proof.PreFacts.lean ====
module

public import proofs.«01_k».proof.Proof.KernelReads
public import proofs.«01_k».proof.Proof.Softmax
public import proofs.«01_k».proof.Defs

/-!
What the precondition says of the network's inputs and parameters: the arrays are finite, and some pair is allowed.
-/

@[expose] public section

set_option maxHeartbeats 4000000
set_option maxRecDepth 16384

noncomputable section

namespace Cert.Pre_finite_and_allowed.Hand

open Cert.Pre_finite_and_allowed Cert.Net Idealize.ShloMosaic

instance facts : Cert.Pre_finite_and_allowed.Facts where
  bcast_S_S32x128 := by decide
  bcast_S_S2048x128 := by decide
  bcast_S_S128x128 := by decide
  bcast_S_S128 := by decide
  bcast_S_S256x256 := by decide
  bcast_S_S256 := by decide
  bcast_S_S256x1 := by decide
  bcast_S_S1 := by decide
  reducesTo_S32x2048_S_d0_1 := by decide
  h_S_ := by decide

/-- An array whose absolute values are all below the top is real. -/
theorem isReal {s : Shape} (x : FVec Ideal s .f32) (h : S_.BroadcastsInDim s (![] : Fin 0 → Fin s.rank))
    (e : cmpf .olt (Host.absf x) (broadcastInDim s ![] h (constant S_ .f32 0x7F800000#32)) = fun _ => 1#1) (i : s.Idx) : IsReal (x i) := by
  have t : Ideal.cmp .olt (max (x i) (-(x i)) : EReal) (Ideal.ofBits .f32 0x7F800000#32) = 1#1 := congrFun e i
  have b : (Ideal.ofBits .f32 0x7F800000#32 : EReal) = ⊤ := by simp [Ideal.ofBits, Ideal.ieee]
  rw [b] at t
  have l : max (x i : EReal) (-(x i : EReal)) < ⊤ := by
    by_contra n
    simp [Ideal.cmp, n] at t
  have l1 := (le_max_left _ _).trans_lt l
  have l2 := (le_max_right _ _).trans_lt l
  refine ⟨EReal.toReal (x i), (EReal.coe_toReal l1.ne ?_).symm⟩
  intro n
  rw [n] at l2
  exact absurd l2 (by simp)

/-- If an "or" of bits is one, one of the bits is. -/
theorem exists_of_foldl_ori {α : Type} (f : α → BitVec 1) (l : List α) (z : BitVec 1) (h : l.foldl (fun r n => IntOp.ori r (f n)) z = 1#1) :
    z = 1#1 ∨ ∃ n, f n = 1#1 := by
  induction l generalizing z with
  | nil => exact .inl h
  | cons a l ih =>
    rcases ih _ h with e | e
    · have : ∀ u v : BitVec 1, IntOp.ori u v = 1#1 → u = 1#1 ∨ v = 1#1 := by decide
      exact (this _ _ e).imp id fun t => ⟨a, t⟩
    · exact .inr e

theorem exists_of_reduce (x : IVec S32x2048 1)
    (e : Host.reduce IntOp.ori x (constantI S_ 1 0#1) Facts.reducesTo_S32x2048_S_d0_1 Facts.h_S_ = fun _ => 1#1) : ∃ (a : Fin 32) (b : Fin 2048), x (ix2 a b) = 1#1 := by
  rcases exists_of_foldl_ori (fun n => x (S32x2048.rowMajor.symm n)) _ _ (congrFun e ix0) with h | ⟨n, h⟩
  · exact absurd h (by decide)
  · generalize S32x2048.rowMajor.symm n = i at h
    refine ⟨i 0, i 1, ?_⟩
    rw [← h]
    congr 1
    funext k
    match k with
    | ⟨0, _⟩ => rfl
    | ⟨1, _⟩ => rfl

end Cert.Pre_finite_and_allowed.Hand

namespace Cert.KernelIdeal.Hand

open Cert.KernelIdeal Cert.KernelIdeal.Gen Cert.Net Cert.Pre_finite_and_allowed.Hand Idealize.ShloMosaic Idealize.ShloMosaic.TcCoe Idealize.SL.Sem

variable (m : (ℓ : Loc nD τ sig) → Buf (Elt Ideal) ℓ) (c : Dev nD)

theorem params_ok (h : Cert.Pre_KernelIdeal_finite_and_allowed m) : (params m c).Ok := by
  obtain ⟨e, e0, e1, e4, e5, e6, e7, e8, e9, e10, e11, e12, e13, e14, e15, e16, e17⟩ := h c
  exact {
    some := by
      dsimp only [Cert.Pre_finite_and_allowed.fn, Cert.Pre_finite_and_allowed.fn_part1, Cert.Pre_finite_and_allowed.fn_part2] at e
      have e' : Host.reduce IntOp.ori (m ((c : Thread nD τ).loc main_arg2) : IVec Cert.Pre_finite_and_allowed.S32x2048 1)
          (constantI Cert.Pre_finite_and_allowed.S_ 1 0#1) Cert.Pre_finite_and_allowed.Facts.reducesTo_S32x2048_S_d0_1
          Cert.Pre_finite_and_allowed.Facts.h_S_ = fun _ => 1#1 := e
      obtain ⟨a, b, t⟩ := exists_of_reduce _ e'
      exact ⟨b, a, t⟩
    crane := fun i k => isReal _ _ e0 (ix2 i k)
    pile := fun i k => isReal _ _ e1 (ix2 i k)
    Wc0 := fun i k => isReal _ _ e4 (ix2 i k)
    bc0 := fun k => isReal _ _ e5 (ix1 k)
    Wc1 := fun i k => isReal _ _ e6 (ix2 i k)
    bc1 := fun k => isReal _ _ e7 (ix1 k)
    Wp0 := fun i k => isReal _ _ e8 (ix2 i k)
    bp0 := fun k => isReal _ _ e9 (ix1 k)
    Wp1 := fun i k => isReal _ _ e10 (ix2 i k)
    bp1 := fun k => isReal _ _ e11 (ix1 k)
    A0 := fun i k => isReal _ _ e12 (ix2 i k)
    A0b := fun k => isReal _ _ e13 (ix1 k)
    A1 := fun i k => isReal _ _ e14 (ix2 i k)
    A1b := fun k => isReal _ _ e15 (ix1 k)
    A2 := fun k => isReal _ _ e16 (ix2 k 0)
    A2b := isReal _ _ e17 (ix1 0) }

end Cert.KernelIdeal.Hand
-- ==== Proof.RefOps.lean ====
module

public import proofs.«01_k».proof.Proof.Gen.ReferenceIdeal
public import Idealize.ShloMosaic.Lib.StableHlo.Run
public import Idealize.ShloMosaic.Lib.StableHlo.RunClose
public import Idealize.ShloMosaic.Lib.Pipeline.Frame

/-!
The run of the reference program. Its @main is one line of host operations; it is cut here into fourteen
segments, each of which computes one layer of the network. Every segment has one lemma that says what the layer
computes from any contents before it, and one that says which buffers it leaves alone; the run of the whole line
is their composition.
-/

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape `s` and element type `t`. -/
abbrev Arr (F : FTy → Type) [FloatOps F] (s : Shape) (t : EltTy) : Type := (⟨s, t⟩ : BufTy).Contents (Elt F)

/-- The features of every pair: the crane's 128 numbers, then the pile's. -/
def joinPairs (a b : Arr F S2048x32x128 .f32) : Arr F S2048x32x256 .f32 :=
  concatenate S2048x32x256 2 [⟨S2048x32x128, a⟩, ⟨S2048x32x128, b⟩] concatenates_S2048x32x128_S2048x32x128_S2048x32x256_d2

/-- The critic's input: the mean crane, then the mean pile. -/
def joinMeans (a b : Arr F S128 .f32) : Arr F S256 .f32 :=
  concatenate S256 0 [⟨S128, a⟩, ⟨S128, b⟩] concatenates_S128_S128_S256_d0

/-! ## The segments -/

/-- The operations of @main that end by writing `main_v4`. -/
def seg0 : List (HloOp τ sig (Elt F)) :=
  [ binary main_arg0 main_arg4 main_v0 ((fun l r => Host.dotGeneral dot_S32x128_S128x128_S32x128_1_0_0_1_n_n none l r) : (⟨S32x128, .f32⟩ : BufTy).Contents (Elt F) → (⟨S128x128, .f32⟩ : BufTy).Contents (Elt F) → (⟨S32x128, .f32⟩ : BufTy).Contents (Elt F)),
    unary main_arg5 main_v1 (broadcastInDim S1x128 ![1] bcast_S128_S1x128_1 : (⟨S128, .f32⟩ : BufTy).Contents (Elt F) → (⟨S1x128, .f32⟩ : BufTy).Contents (Elt F)),
    unary main_v1 main_v2 (broadcastInDim S32x128 ![0, 1] bcast_S1x128_S32x128_0_1 : (⟨S1x128, .f32⟩ : BufTy).Contents (Elt F) → (⟨S32x128, .f32⟩ : BufTy).Contents (Elt F)),
    binary main_v0 main_v2 main_v3 (addf : (⟨S32x128, .f32⟩ : BufTy).Contents (Elt F) → (⟨S32x128, .f32⟩ : BufTy).Contents (Elt F) → (⟨S32x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x128, .f32⟩) main_call0_v0) (broadcastInDim S32x128 ![] bcast_S_S32x128),
    TRef.binary (TRef.of (T := ⟨S32x128, .f32⟩) main_v3) (TRef.of (T := ⟨S32x128, .f32⟩) main_call0_v0) (TRef.of (T := ⟨S32x128, .i1⟩) main_call0_v1) (cmpf .ogt),
    TRef.nullary (TRef.of (T := ⟨S_, .f32⟩) main_call0_cst_0) (constant S_ .f32 0x00000000#32),
    TRef.unary (TRef.of (T := ⟨S_, .f32⟩) main_call0_cst_0) (TRef.of (T := ⟨S32x128, .f32⟩) main_call0_v2) (broadcastInDim S32x128 ![] bcast_S_S32x128),
    TRef.binary (TRef.of (T := ⟨S32x128, .f32⟩) main_v3) (TRef.of (T := ⟨S32x128, .f32⟩) main_call0_v2) (TRef.of (T := ⟨S32x128, .i1⟩) main_call0_v3) (cmpf .ogt),
    TRef.nullary (TRef.of (T := ⟨S_, .f32⟩) main_call0_cst_1) (constant S_ .f32 0x00000000#32),
    TRef.unary (TRef.of (T := ⟨S_, .f32⟩) main_call0_cst_1) (TRef.of (T := ⟨S_, .f32⟩) main_call0_call0_v0) id,
    TRef.unary (TRef.of (T := ⟨S_, .f32⟩) main_call0_call0_v0) (TRef.of (T := ⟨S32x128, .f32⟩) main_call0_call0_v1) (broadcastInDim S32x128 ![] bcast_S_S32x128),
    TRef.ternary (TRef.of (T := ⟨S32x128, .i1⟩) main_call0_v3) (TRef.of (T := ⟨S32x128, .f32⟩) main_call0_call0_v1) (TRef.of (T := ⟨S32x128, .f32⟩) main_v3) (TRef.of (T := ⟨S32x128, .f32⟩) main_call0_v4) select,
    TRef.unary (TRef.of (T := ⟨S32x128, .f32⟩) main_call0_v4) (TRef.of (T := ⟨S32x128, .f32⟩) main_call0_v5) Host.expm1,
    TRef.nullary (TRef.of (T := ⟨S_, .f32⟩) main_call0_cst_2) (constant S_ .f32 0x3F800000#32),
    TRef.unary (TRef.of (T := ⟨S_, .f32⟩) main_call0_cst_2) (TRef.of (T := ⟨S32x128, .f32⟩) main_call0_v6) (broadcastInDim S32x128 ![] bcast_S_S32x128),
    TRef.binary (TRef.of (T := ⟨S32x128, .f32⟩) main_call0_v6) (TRef.of (T := ⟨S32x128, .f32⟩) main_call0_v5) (TRef.of (T := ⟨S32x128, .f32⟩) main_call0_v7) mulf,
    TRef.ternary (TRef.of (T := ⟨S32x128, .i1⟩) main_call0_v1) (TRef.of (T := ⟨S32x128, .f32⟩) main_v3) (TRef.of (T := ⟨S32x128, .f32⟩) main_call0_v7) (TRef.of (T := ⟨S32x128, .f32⟩) main_v4) select ]

/-- The buffers that `seg0` writes. -/
def seg0W : List (Ref sig .tc) :=
  [main_v0, main_v1, main_v2, main_v3, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v4]

/-- The operations of @main that end by writing `main_v9`. -/
def seg1 : List (HloOp τ sig (Elt F)) :=
  [ binary main_v4 main_arg6 main_v5 ((fun l r => Host.dotGeneral dot_S32x128_S128x128_S32x128_1_0_0_1_n_n none l r) : (⟨S32x128, .f32⟩ : BufTy).Contents (Elt F) → (⟨S128x128, .f32⟩ : BufTy).Contents (Elt F) → (⟨S32x128, .f32⟩ : BufTy).Contents (Elt F)),
    unary main_arg7 main_v6 (broadcastInDim S1x128 ![1] bcast_S128_S1x128_1 : (⟨S128, .f32⟩ : BufTy).Contents (Elt F) → (⟨S1x128, .f32⟩ : BufTy).Contents (Elt F)),
    unary main_v6 main_v7 (broadcastInDim S32x128 ![0, 1] bcast_S1x128_S32x128_0_1 : (⟨S1x128, .f32⟩ : BufTy).Contents (Elt F) → (⟨S32x128, .f32⟩ : BufTy).Contents (Elt F)),
    binary main_v5 main_v7 main_v8 (addf : (⟨S32x128, .f32⟩ : BufTy).Contents (Elt F) → (⟨S32x128, .f32⟩ : BufTy).Contents (Elt F) → (⟨S32x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32x128, .f32⟩) main_call1_v0) (broadcastInDim S32x128 ![] bcast_S_S32x128),
    TRef.binary (TRef.of (T := ⟨S32x128, .f32⟩) main_v8) (TRef.of (T := ⟨S32x128, .f32⟩) main_call1_v0) (TRef.of (T := ⟨S32x128, .i1⟩) main_call1_v1) (cmpf .ogt),
    TRef.nullary (TRef.of (T := ⟨S_, .f32⟩) main_call1_cst_0) (constant S_ .f32 0x00000000#32),
    TRef.unary (TRef.of (T := ⟨S_, .f32⟩) main_call1_cst_0) (TRef.of (T := ⟨S32x128, .f32⟩) main_call1_v2) (broadcastInDim S32x128 ![] bcast_S_S32x128),
    TRef.binary (TRef.of (T := ⟨S32x128, .f32⟩) main_v8) (TRef.of (T := ⟨S32x128, .f32⟩) main_call1_v2) (TRef.of (T := ⟨S32x128, .i1⟩) main_call1_v3) (cmpf .ogt),
    TRef.nullary (TRef.of (T := ⟨S_, .f32⟩) main_call1_cst_1) (constant S_ .f32 0x00000000#32),
    TRef.unary (TRef.of (T := ⟨S_, .f32⟩) main_call1_cst_1) (TRef.of (T := ⟨S_, .f32⟩) main_call1_call0_v0) id,
    TRef.unary (TRef.of (T := ⟨S_, .f32⟩) main_call1_call0_v0) (TRef.of (T := ⟨S32x128, .f32⟩) main_call1_call0_v1) (broadcastInDim S32x128 ![] bcast_S_S32x128),
    TRef.ternary (TRef.of (T := ⟨S32x128, .i1⟩) main_call1_v3) (TRef.of (T := ⟨S32x128, .f32⟩) main_call1_call0_v1) (TRef.of (T := ⟨S32x128, .f32⟩) main_v8) (TRef.of (T := ⟨S32x128, .f32⟩) main_call1_v4) select,
    TRef.unary (TRef.of (T := ⟨S32x128, .f32⟩) main_call1_v4) (TRef.of (T := ⟨S32x128, .f32⟩) main_call1_v5) Host.expm1,
    TRef.nullary (TRef.of (T := ⟨S_, .f32⟩) main_call1_cst_2) (constant S_ .f32 0x3F800000#32),
    TRef.unary (TRef.of (T := ⟨S_, .f32⟩) main_call1_cst_2) (TRef.of (T := ⟨S32x128, .f32⟩) main_call1_v6) (broadcastInDim S32x128 ![] bcast_S_S32x128),
    TRef.binary (TRef.of (T := ⟨S32x128, .f32⟩) main_call1_v6) (TRef.of (T := ⟨S32x128, .f32⟩) main_call1_v5) (TRef.of (T := ⟨S32x128, .f32⟩) main_call1_v7) mulf,
    TRef.ternary (TRef.of (T := ⟨S32x128, .i1⟩) main_call1_v1) (TRef.of (T := ⟨S32x128, .f32⟩) main_v8) (TRef.of (T := ⟨S32x128, .f32⟩) main_call1_v7) (TRef.of (T := ⟨S32x128, .f32⟩) main_v9) select ]

/-- The buffers that `seg1` writes. -/
def seg1W : List (Ref sig .tc) :=
  [main_v5, main_v6, main_v7, main_v8, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v9]

/-- The operations of @main that end by writing `main_v14`. -/
def seg2 : List (HloOp τ sig (Elt F)) :=
  [ binary main_arg1 main_arg8 main_v10 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_arg9 main_v11 (broadcastInDim S1x128 ![1] bcast_S128_S1x128_1 : (⟨S128, .f32⟩ : BufTy).Contents (Elt F) → (⟨S1x128, .f32⟩ : BufTy).Contents (Elt F)),
    unary main_v11 main_v12 (broadcastInDim S2048x128 ![0, 1] bcast_S1x128_S2048x128_0_1 : (⟨S1x128, .f32⟩ : BufTy).Contents (Elt F) → (⟨S2048x128, .f32⟩ : BufTy).Contents (Elt F)),
    binary main_v10 main_v12 main_v13 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S2048x128, .f32⟩) main_call2_v0) (broadcastInDim S2048x128 ![] bcast_S_S2048x128),
    TRef.binary (TRef.of (T := ⟨S2048x128, .f32⟩) main_v13) (TRef.of (T := ⟨S2048x128, .f32⟩) main_call2_v0) (TRef.of (T := ⟨S2048x128, .i1⟩) main_call2_v1) (cmpf .ogt),
    TRef.nullary (TRef.of (T := ⟨S_, .f32⟩) main_call2_cst_0) (constant S_ .f32 0x00000000#32),
    TRef.unary (TRef.of (T := ⟨S_, .f32⟩) main_call2_cst_0) (TRef.of (T := ⟨S2048x128, .f32⟩) main_call2_v2) (broadcastInDim S2048x128 ![] bcast_S_S2048x128),
    TRef.binary (TRef.of (T := ⟨S2048x128, .f32⟩) main_v13) (TRef.of (T := ⟨S2048x128, .f32⟩) main_call2_v2) (TRef.of (T := ⟨S2048x128, .i1⟩) main_call2_v3) (cmpf .ogt),
    TRef.nullary (TRef.of (T := ⟨S_, .f32⟩) main_call2_cst_1) (constant S_ .f32 0x00000000#32),
    TRef.unary (TRef.of (T := ⟨S_, .f32⟩) main_call2_cst_1) (TRef.of (T := ⟨S_, .f32⟩) main_call2_call0_v0) id,
    TRef.unary (TRef.of (T := ⟨S_, .f32⟩) main_call2_call0_v0) (TRef.of (T := ⟨S2048x128, .f32⟩) main_call2_call0_v1) (broadcastInDim S2048x128 ![] bcast_S_S2048x128),
    TRef.ternary (TRef.of (T := ⟨S2048x128, .i1⟩) main_call2_v3) (TRef.of (T := ⟨S2048x128, .f32⟩) main_call2_call0_v1) (TRef.of (T := ⟨S2048x128, .f32⟩) main_v13) (TRef.of (T := ⟨S2048x128, .f32⟩) main_call2_v4) select,
    TRef.unary (TRef.of (T := ⟨S2048x128, .f32⟩) main_call2_v4) (TRef.of (T := ⟨S2048x128, .f32⟩) main_call2_v5) Host.expm1,
    TRef.nullary (TRef.of (T := ⟨S_, .f32⟩) main_call2_cst_2) (constant S_ .f32 0x3F800000#32),
    TRef.unary (TRef.of (T := ⟨S_, .f32⟩) main_call2_cst_2) (TRef.of (T := ⟨S2048x128, .f32⟩) main_call2_v6) (broadcastInDim S2048x128 ![] bcast_S_S2048x128),
    TRef.binary (TRef.of (T := ⟨S2048x128, .f32⟩) main_call2_v6) (TRef.of (T := ⟨S2048x128, .f32⟩) main_call2_v5) (TRef.of (T := ⟨S2048x128, .f32⟩) main_call2_v7) mulf,
    TRef.ternary (TRef.of (T := ⟨S2048x128, .i1⟩) main_call2_v1) (TRef.of (T := ⟨S2048x128, .f32⟩) main_v13) (TRef.of (T := ⟨S2048x128, .f32⟩) main_call2_v7) (TRef.of (T := ⟨S2048x128, .f32⟩) main_v14) select ]

/-- The buffers that `seg2` writes. -/
def seg2W : List (Ref sig .tc) :=
  [main_v10, main_v11, main_v12, main_v13, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v14]

/-- The operations of @main that end by writing `main_v19`. -/
def seg3 : List (HloOp τ sig (Elt F)) :=
  [ binary main_v14 main_arg10 main_v15 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_arg11 main_v16 (broadcastInDim S1x128 ![1] bcast_S128_S1x128_1 : (⟨S128, .f32⟩ : BufTy).Contents (Elt F) → (⟨S1x128, .f32⟩ : BufTy).Contents (Elt F)),
    unary main_v16 main_v17 (broadcastInDim S2048x128 ![0, 1] bcast_S1x128_S2048x128_0_1 : (⟨S1x128, .f32⟩ : BufTy).Contents (Elt F) → (⟨S2048x128, .f32⟩ : BufTy).Contents (Elt F)),
    binary main_v15 main_v17 main_v18 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2048x128, .f32⟩) main_call3_v0) (broadcastInDim S2048x128 ![] bcast_S_S2048x128),
    TRef.binary (TRef.of (T := ⟨S2048x128, .f32⟩) main_v18) (TRef.of (T := ⟨S2048x128, .f32⟩) main_call3_v0) (TRef.of (T := ⟨S2048x128, .i1⟩) main_call3_v1) (cmpf .ogt),
    TRef.nullary (TRef.of (T := ⟨S_, .f32⟩) main_call3_cst_0) (constant S_ .f32 0x00000000#32),
    TRef.unary (TRef.of (T := ⟨S_, .f32⟩) main_call3_cst_0) (TRef.of (T := ⟨S2048x128, .f32⟩) main_call3_v2) (broadcastInDim S2048x128 ![] bcast_S_S2048x128),
    TRef.binary (TRef.of (T := ⟨S2048x128, .f32⟩) main_v18) (TRef.of (T := ⟨S2048x128, .f32⟩) main_call3_v2) (TRef.of (T := ⟨S2048x128, .i1⟩) main_call3_v3) (cmpf .ogt),
    TRef.nullary (TRef.of (T := ⟨S_, .f32⟩) main_call3_cst_1) (constant S_ .f32 0x00000000#32),
    TRef.unary (TRef.of (T := ⟨S_, .f32⟩) main_call3_cst_1) (TRef.of (T := ⟨S_, .f32⟩) main_call3_call0_v0) id,
    TRef.unary (TRef.of (T := ⟨S_, .f32⟩) main_call3_call0_v0) (TRef.of (T := ⟨S2048x128, .f32⟩) main_call3_call0_v1) (broadcastInDim S2048x128 ![] bcast_S_S2048x128),
    TRef.ternary (TRef.of (T := ⟨S2048x128, .i1⟩) main_call3_v3) (TRef.of (T := ⟨S2048x128, .f32⟩) main_call3_call0_v1) (TRef.of (T := ⟨S2048x128, .f32⟩) main_v18) (TRef.of (T := ⟨S2048x128, .f32⟩) main_call3_v4) select,
    TRef.unary (TRef.of (T := ⟨S2048x128, .f32⟩) main_call3_v4) (TRef.of (T := ⟨S2048x128, .f32⟩) main_call3_v5) Host.expm1,
    TRef.nullary (TRef.of (T := ⟨S_, .f32⟩) main_call3_cst_2) (constant S_ .f32 0x3F800000#32),
    TRef.unary (TRef.of (T := ⟨S_, .f32⟩) main_call3_cst_2) (TRef.of (T := ⟨S2048x128, .f32⟩) main_call3_v6) (broadcastInDim S2048x128 ![] bcast_S_S2048x128),
    TRef.binary (TRef.of (T := ⟨S2048x128, .f32⟩) main_call3_v6) (TRef.of (T := ⟨S2048x128, .f32⟩) main_call3_v5) (TRef.of (T := ⟨S2048x128, .f32⟩) main_call3_v7) mulf,
    TRef.ternary (TRef.of (T := ⟨S2048x128, .i1⟩) main_call3_v1) (TRef.of (T := ⟨S2048x128, .f32⟩) main_v18) (TRef.of (T := ⟨S2048x128, .f32⟩) main_call3_v7) (TRef.of (T := ⟨S2048x128, .f32⟩) main_v19) select ]

/-- The buffers that `seg3` writes. -/
def seg3W : List (Ref sig .tc) :=
  [main_v15, main_v16, main_v17, main_v18, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v19]

/-- The operations of @main that end by writing `main_v31`. -/
def seg4 : List (HloOp τ sig (Elt F)) :=
  [ nullary main_cst (constant S_ .f32 0x00000000#32),
    binary main_v9 main_cst main_v20 ((fun x v => Host.reduceAdd x v reducesTo_S32x128_S128_d0 h_S_) : (⟨S32x128, .f32⟩ : BufTy).Contents (Elt F) → (⟨S_, .f32⟩ : BufTy).Contents (Elt F) → (⟨S128, .f32⟩ : BufTy).Contents (Elt F)),
    nullary main_cst_0 (constant S_ .f32 0x42000000#32),
    unary main_cst_0 main_v21 (broadcastInDim S128 ![] bcast_S_S128 : (⟨S_, .f32⟩ : BufTy).Contents (Elt F) → (⟨S128, .f32⟩ : BufTy).Contents (Elt F)),
    binary main_v20 main_v21 main_v22 (Host.divf : (⟨S128, .f32⟩ : BufTy).Contents (Elt F) → (⟨S128, .f32⟩ : BufTy).Contents (Elt F) → (⟨S128, .f32⟩ : BufTy).Contents (Elt F)),
    nullary main_cst_1 (constant S_ .f32 0x00000000#32),
    binary main_v19 main_cst_1 main_v23 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    nullary main_cst_2 (constant S_ .f32 0x45000000#32),
    unary main_cst_2 main_v24 (broadcastInDim S128 ![] bcast_S_S128 : (⟨S_, .f32⟩ : BufTy).Contents (Elt F) → (⟨S128, .f32⟩ : BufTy).Contents (Elt F)),
    binary main_v23 main_v24 main_v25 (Host.divf : (⟨S128, .f32⟩ : BufTy).Contents (Elt F) → (⟨S128, .f32⟩ : BufTy).Contents (Elt F) → (⟨S128, .f32⟩ : BufTy).Contents (Elt F)),
    unary main_v19 main_v26 (broadcastInDim S2048x1x128 ![0, 2] bcast_S2048x128_S2048x1x128_0_2 : (⟨S2048x128, .f32⟩ : BufTy).Contents (Elt F) → (⟨S2048x1x128, .f32⟩ : BufTy).Contents (Elt F)),
    unary main_v26 main_v27 (broadcastInDim S2048x32x128 ![0, 1, 2] bcast_S2048x1x128_S2048x32x128_0_1_2 : (⟨S2048x1x128, .f32⟩ : BufTy).Contents (Elt F) → (⟨S2048x32x128, .f32⟩ : BufTy).Contents (Elt F)),
    unary main_v9 main_v28 (broadcastInDim S1x32x128 ![1, 2] bcast_S32x128_S1x32x128_1_2 : (⟨S32x128, .f32⟩ : BufTy).Contents (Elt F) → (⟨S1x32x128, .f32⟩ : BufTy).Contents (Elt F)),
    unary main_v28 main_v29 (broadcastInDim S2048x32x128 ![0, 1, 2] bcast_S1x32x128_S2048x32x128_0_1_2 : (⟨S1x32x128, .f32⟩ : BufTy).Contents (Elt F) → (⟨S2048x32x128, .f32⟩ : BufTy).Contents (Elt F)),
    binary main_v29 main_v27 main_v30 joinPairs,
    binary main_v22 main_v25 main_v31 joinMeans ]

/-- The buffers that `seg4` writes. -/
def seg4W : List (Ref sig .tc) :=
  [main_cst, main_v20, main_cst_0, main_v21, main_v22, main_cst_1, main_v23, main_cst_2, main_v24, main_v25, main_v26, main_v27, main_v28, main_v29, main_v30, main_v31]

/-- The operations of @main that end by writing `main_v36`. -/
def seg5 : List (HloOp τ sig (Elt F)) :=
  [ binary main_v30 main_arg12 main_v32 ((fun l r => Host.dotGeneral dot_S2048x32x256_S256x256_S2048x32x256_2_0_01_1_n_n none l r) : (⟨S2048x32x256, .f32⟩ : BufTy).Contents (Elt F) → (⟨S256x256, .f32⟩ : BufTy).Contents (Elt F) → (⟨S2048x32x256, .f32⟩ : BufTy).Contents (Elt F)),
    unary main_arg13 main_v33 (broadcastInDim S1x1x256 ![2] bcast_S256_S1x1x256_2 : (⟨S256, .f32⟩ : BufTy).Contents (Elt F) → (⟨S1x1x256, .f32⟩ : BufTy).Contents (Elt F)),
    unary main_v33 main_v34 (broadcastInDim S2048x32x256 ![0, 1, 2] bcast_S1x1x256_S2048x32x256_0_1_2 : (⟨S1x1x256, .f32⟩ : BufTy).Contents (Elt F) → (⟨S2048x32x256, .f32⟩ : BufTy).Contents (Elt F)),
    binary main_v32 main_v34 main_v35 (addf : (⟨S2048x32x256, .f32⟩ : BufTy).Contents (Elt F) → (⟨S2048x32x256, .f32⟩ : BufTy).Contents (Elt F) → (⟨S2048x32x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2048x32x256, .f32⟩) main_call4_v0) (broadcastInDim S2048x32x256 ![] bcast_S_S2048x32x256),
    TRef.binary (TRef.of (T := ⟨S2048x32x256, .f32⟩) main_v35) (TRef.of (T := ⟨S2048x32x256, .f32⟩) main_call4_v0) (TRef.of (T := ⟨S2048x32x256, .i1⟩) main_call4_v1) (cmpf .ogt),
    TRef.nullary (TRef.of (T := ⟨S_, .f32⟩) main_call4_cst_0) (constant S_ .f32 0x00000000#32),
    TRef.unary (TRef.of (T := ⟨S_, .f32⟩) main_call4_cst_0) (TRef.of (T := ⟨S2048x32x256, .f32⟩) main_call4_v2) (broadcastInDim S2048x32x256 ![] bcast_S_S2048x32x256),
    TRef.binary (TRef.of (T := ⟨S2048x32x256, .f32⟩) main_v35) (TRef.of (T := ⟨S2048x32x256, .f32⟩) main_call4_v2) (TRef.of (T := ⟨S2048x32x256, .i1⟩) main_call4_v3) (cmpf .ogt),
    TRef.nullary (TRef.of (T := ⟨S_, .f32⟩) main_call4_cst_1) (constant S_ .f32 0x00000000#32),
    TRef.unary (TRef.of (T := ⟨S_, .f32⟩) main_call4_cst_1) (TRef.of (T := ⟨S_, .f32⟩) main_call4_call0_v0) id,
    TRef.unary (TRef.of (T := ⟨S_, .f32⟩) main_call4_call0_v0) (TRef.of (T := ⟨S2048x32x256, .f32⟩) main_call4_call0_v1) (broadcastInDim S2048x32x256 ![] bcast_S_S2048x32x256),
    TRef.ternary (TRef.of (T := ⟨S2048x32x256, .i1⟩) main_call4_v3) (TRef.of (T := ⟨S2048x32x256, .f32⟩) main_call4_call0_v1) (TRef.of (T := ⟨S2048x32x256, .f32⟩) main_v35) (TRef.of (T := ⟨S2048x32x256, .f32⟩) main_call4_v4) select,
    TRef.unary (TRef.of (T := ⟨S2048x32x256, .f32⟩) main_call4_v4) (TRef.of (T := ⟨S2048x32x256, .f32⟩) main_call4_v5) Host.expm1,
    TRef.nullary (TRef.of (T := ⟨S_, .f32⟩) main_call4_cst_2) (constant S_ .f32 0x3F800000#32),
    TRef.unary (TRef.of (T := ⟨S_, .f32⟩) main_call4_cst_2) (TRef.of (T := ⟨S2048x32x256, .f32⟩) main_call4_v6) (broadcastInDim S2048x32x256 ![] bcast_S_S2048x32x256),
    TRef.binary (TRef.of (T := ⟨S2048x32x256, .f32⟩) main_call4_v6) (TRef.of (T := ⟨S2048x32x256, .f32⟩) main_call4_v5) (TRef.of (T := ⟨S2048x32x256, .f32⟩) main_call4_v7) mulf,
    TRef.ternary (TRef.of (T := ⟨S2048x32x256, .i1⟩) main_call4_v1) (TRef.of (T := ⟨S2048x32x256, .f32⟩) main_v35) (TRef.of (T := ⟨S2048x32x256, .f32⟩) main_call4_v7) (TRef.of (T := ⟨S2048x32x256, .f32⟩) main_v36) select ]

/-- The buffers that `seg5` writes. -/
def seg5W : List (Ref sig .tc) :=
  [main_v32, main_v33, main_v34, main_v35, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v36]

/-- The operations of @main that end by writing `main_v41`. -/
def seg6 : List (HloOp τ sig (Elt F)) :=
  [ binary main_v36 main_arg14 main_v37 ((fun l r => Host.dotGeneral dot_S2048x32x256_S256x256_S2048x32x256_2_0_01_1_n_n none l r) : (⟨S2048x32x256, .f32⟩ : BufTy).Contents (Elt F) → (⟨S256x256, .f32⟩ : BufTy).Contents (Elt F) → (⟨S2048x32x256, .f32⟩ : BufTy).Contents (Elt F)),
    unary main_arg15 main_v38 (broadcastInDim S1x1x256 ![2] bcast_S256_S1x1x256_2 : (⟨S256, .f32⟩ : BufTy).Contents (Elt F) → (⟨S1x1x256, .f32⟩ : BufTy).Contents (Elt F)),
    unary main_v38 main_v39 (broadcastInDim S2048x32x256 ![0, 1, 2] bcast_S1x1x256_S2048x32x256_0_1_2 : (⟨S1x1x256, .f32⟩ : BufTy).Contents (Elt F) → (⟨S2048x32x256, .f32⟩ : BufTy).Contents (Elt F)),
    binary main_v37 main_v39 main_v40 (addf : (⟨S2048x32x256, .f32⟩ : BufTy).Contents (Elt F) → (⟨S2048x32x256, .f32⟩ : BufTy).Contents (Elt F) → (⟨S2048x32x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S2048x32x256, .f32⟩) main_call5_v0) (broadcastInDim S2048x32x256 ![] bcast_S_S2048x32x256),
    TRef.binary (TRef.of (T := ⟨S2048x32x256, .f32⟩) main_v40) (TRef.of (T := ⟨S2048x32x256, .f32⟩) main_call5_v0) (TRef.of (T := ⟨S2048x32x256, .i1⟩) main_call5_v1) (cmpf .ogt),
    TRef.nullary (TRef.of (T := ⟨S_, .f32⟩) main_call5_cst_0) (constant S_ .f32 0x00000000#32),
    TRef.unary (TRef.of (T := ⟨S_, .f32⟩) main_call5_cst_0) (TRef.of (T := ⟨S2048x32x256, .f32⟩) main_call5_v2) (broadcastInDim S2048x32x256 ![] bcast_S_S2048x32x256),
    TRef.binary (TRef.of (T := ⟨S2048x32x256, .f32⟩) main_v40) (TRef.of (T := ⟨S2048x32x256, .f32⟩) main_call5_v2) (TRef.of (T := ⟨S2048x32x256, .i1⟩) main_call5_v3) (cmpf .ogt),
    TRef.nullary (TRef.of (T := ⟨S_, .f32⟩) main_call5_cst_1) (constant S_ .f32 0x00000000#32),
    TRef.unary (TRef.of (T := ⟨S_, .f32⟩) main_call5_cst_1) (TRef.of (T := ⟨S_, .f32⟩) main_call5_call0_v0) id,
    TRef.unary (TRef.of (T := ⟨S_, .f32⟩) main_call5_call0_v0) (TRef.of (T := ⟨S2048x32x256, .f32⟩) main_call5_call0_v1) (broadcastInDim S2048x32x256 ![] bcast_S_S2048x32x256),
    TRef.ternary (TRef.of (T := ⟨S2048x32x256, .i1⟩) main_call5_v3) (TRef.of (T := ⟨S2048x32x256, .f32⟩) main_call5_call0_v1) (TRef.of (T := ⟨S2048x32x256, .f32⟩) main_v40) (TRef.of (T := ⟨S2048x32x256, .f32⟩) main_call5_v4) select,
    TRef.unary (TRef.of (T := ⟨S2048x32x256, .f32⟩) main_call5_v4) (TRef.of (T := ⟨S2048x32x256, .f32⟩) main_call5_v5) Host.expm1,
    TRef.nullary (TRef.of (T := ⟨S_, .f32⟩) main_call5_cst_2) (constant S_ .f32 0x3F800000#32),
    TRef.unary (TRef.of (T := ⟨S_, .f32⟩) main_call5_cst_2) (TRef.of (T := ⟨S2048x32x256, .f32⟩) main_call5_v6) (broadcastInDim S2048x32x256 ![] bcast_S_S2048x32x256),
    TRef.binary (TRef.of (T := ⟨S2048x32x256, .f32⟩) main_call5_v6) (TRef.of (T := ⟨S2048x32x256, .f32⟩) main_call5_v5) (TRef.of (T := ⟨S2048x32x256, .f32⟩) main_call5_v7) mulf,
    TRef.ternary (TRef.of (T := ⟨S2048x32x256, .i1⟩) main_call5_v1) (TRef.of (T := ⟨S2048x32x256, .f32⟩) main_v40) (TRef.of (T := ⟨S2048x32x256, .f32⟩) main_call5_v7) (TRef.of (T := ⟨S2048x32x256, .f32⟩) main_v41) select ]

/-- The buffers that `seg6` writes. -/
def seg6W : List (Ref sig .tc) :=
  [main_v37, main_v38, main_v39, main_v40, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v41]

/-- The operations of @main that end by writing `main_v49`. -/
def seg7 : List (HloOp τ sig (Elt F)) :=
  [ binary main_v41 main_arg16 main_v42 ((fun l r => Host.dotGeneral dot_S2048x32x256_S256x1_S2048x32x1_2_0_01_1_n_n none l r) : (⟨S2048x32x256, .f32⟩ : BufTy).Contents (Elt F) → (⟨S256x1, .f32⟩ : BufTy).Contents (Elt F) → (⟨S2048x32x1, .f32⟩ : BufTy).Contents (Elt F)),
    unary main_arg17 main_v43 (broadcastInDim S1x1x1 ![2] bcast_S1_S1x1x1_2 : (⟨S1, .f32⟩ : BufTy).Contents (Elt F) → (⟨S1x1x1, .f32⟩ : BufTy).Contents (Elt F)),
    unary main_v43 main_v44 (broadcastInDim S2048x32x1 ![0, 1, 2] bcast_S1x1x1_S2048x32x1_0_1_2 : (⟨S1x1x1, .f32⟩ : BufTy).Contents (Elt F) → (⟨S2048x32x1, .f32⟩ : BufTy).Contents (Elt F)),
    binary main_v42 main_v44 main_v45 (addf : (⟨S2048x32x1, .f32⟩ : BufTy).Contents (Elt F) → (⟨S2048x32x1, .f32⟩ : BufTy).Contents (Elt F) → (⟨S2048x32x1, .f32⟩ : BufTy).Contents (Elt F)),
    reshape main_v45 main_v46 (rfl : (.f32 : EltTy) = .f32) shapeCasts_S2048x32x1_S65536,
    unary main_arg2 main_v47 ((transpose S2048x32 [1, 0] · transposes_S32x2048_S2048x32_1_0) : (⟨S32x2048, .i1⟩ : BufTy).Contents (Elt F) → (⟨S2048x32, .i1⟩ : BufTy).Contents (Elt F)),
    reshape main_v47 main_v48 (rfl : (.i1 : EltTy) = .i1) shapeCasts_S2048x32_S65536,
    nullary main_cst_3 (constant S_ .f32 0xFF800000#32),
    TRef.unary (TRef.of (T := ⟨S_, .f32⟩) main_cst_3) (TRef.of (T := ⟨S_, .f32⟩) main_call6_v0) id,
    TRef.unary (TRef.of (T := ⟨S_, .f32⟩) main_call6_v0) (TRef.of (T := ⟨S65536, .f32⟩) main_call6_v1) (broadcastInDim S65536 ![] bcast_S_S65536),
    TRef.ternary (TRef.of (T := ⟨S65536, .i1⟩) main_v48) (TRef.of (T := ⟨S65536, .f32⟩) main_v46) (TRef.of (T := ⟨S65536, .f32⟩) main_call6_v1) (TRef.of (T := ⟨S65536, .f32⟩) main_v49) select ]

/-- The buffers that `seg7` writes. -/
def seg7W : List (Ref sig .tc) :=
  [main_v42, main_v43, main_v44, main_v45, main_v46, main_v47, main_v48, main_cst_3, main_call6_v0, main_call6_v1, main_v49]

/-- The operations of @main that end by writing `main_v50`. -/
def seg8 : List (HloOp τ sig (Elt F)) :=
  [ TRef.nullary (TRef.of (T := ⟨S_, .f32⟩) main_call7_cst) (constant S_ .f32 0xFF800000#32),
    TRef.binary (TRef.of (T := ⟨S65536, .f32⟩) main_v49) (TRef.of (T := ⟨S_, .f32⟩) main_call7_cst) (TRef.of (T := ⟨S_, .f32⟩) main_call7_v0) (fun x v => Host.reduce FloatOps.maximumf x v reducesTo_S65536_S_d0 h_S_),
    TRef.nullary (TRef.of (T := ⟨S_, .f32⟩) main_call7_cst_0) (constant S_ .f32 0xFF800000#32),
    TRef.binary (TRef.of (T := ⟨S_, .f32⟩) main_call7_cst_0) (TRef.of (T := ⟨S_, .f32⟩) main_call7_v0) (TRef.of (T := ⟨S_, .f32⟩) main_call7_v1) maximumf,
    TRef.unary (TRef.of (T := ⟨S_, .f32⟩) main_call7_v1) (TRef.of (T := ⟨S1, .f32⟩) main_call7_v2) (broadcastInDim S1 ![] bcast_S_S1),
    TRef.unary (TRef.of (T := ⟨S1, .f32⟩) main_call7_v2) (TRef.of (T := ⟨S65536, .f32⟩) main_call7_v3) (broadcastInDim S65536 ![0] bcast_S1_S65536_0),
    TRef.binary (TRef.of (T := ⟨S65536, .f32⟩) main_v49) (TRef.of (T := ⟨S65536, .f32⟩) main_call7_v3) (TRef.of (T := ⟨S65536, .f32⟩) main_call7_v4) subf,
    TRef.unary (TRef.of (T := ⟨S65536, .f32⟩) main_call7_v4) (TRef.of (T := ⟨S65536, .f32⟩) main_call7_v5) Host.exp,
    TRef.nullary (TRef.of (T := ⟨S_, .f32⟩) main_call7_cst_1) (constant S_ .f32 0x00000000#32),
    TRef.binary (TRef.of (T := ⟨S65536, .f32⟩) main_call7_v5) (TRef.of (T := ⟨S_, .f32⟩) main_call7_cst_1) (TRef.of (T := ⟨S_, .f32⟩) main_call7_v6) (fun x v => Host.reduceAdd x v reducesTo_S65536_S_d0 h_S_),
    TRef.unary (TRef.of (T := ⟨S_, .f32⟩) main_call7_v6) (TRef.of (T := ⟨S1, .f32⟩) main_call7_v7) (broadcastInDim S1 ![] bcast_S_S1),
    TRef.unary (TRef.of (T := ⟨S1, .f32⟩) main_call7_v7) (TRef.of (T := ⟨S1, .f32⟩) main_call7_v8) Host.log,
    TRef.unary (TRef.of (T := ⟨S1, .f32⟩) main_call7_v8) (TRef.of (T := ⟨S65536, .f32⟩) main_call7_v9) (broadcastInDim S65536 ![0] bcast_S1_S65536_0),
    TRef.binary (TRef.of (T := ⟨S65536, .f32⟩) main_call7_v4) (TRef.of (T := ⟨S65536, .f32⟩) main_call7_v9) (TRef.of (T := ⟨S65536, .f32⟩) main_v50) subf ]

/-- The buffers that `seg8` writes. -/
def seg8W : List (Ref sig .tc) :=
  [main_call7_cst, main_call7_v0, main_call7_cst_0, main_call7_v1, main_call7_v2, main_call7_v3, main_call7_v4, main_call7_v5, main_call7_cst_1, main_call7_v6, main_call7_v7, main_call7_v8, main_call7_v9, main_v50]

/-- The operations of @main that end by writing `main_c_4`. -/
def seg9 : List (HloOp τ sig (Elt F)) :=
  [ TRef.nullary (TRef.of (T := ⟨S65536, .i32⟩) main_call8_v0) (iotaInDim S65536 32 0),
    TRef.nullary (TRef.of (T := ⟨S_, .f32⟩) main_call8_cst) (constant S_ .f32 0xFF800000#32),
    TRef.nullary (TRef.of (T := ⟨S_, .i32⟩) main_call8_c) (constantI S_ 32 0#32),
    TRef.quaternary (TRef.of (T := ⟨S65536, .f32⟩) main_v50) (TRef.of (T := ⟨S65536, .i32⟩) main_call8_v0) (TRef.of (T := ⟨S_, .f32⟩) main_call8_cst) (TRef.of (T := ⟨S_, .i32⟩) main_call8_c) (TRef.of (T := ⟨S_, .f32⟩) main_call8_v1_0) (fun x y u v j => (Host.argReduce reducer_argmax_f32_i32 x y u v reducesTo_S65536_S_d0 h_S_ j).1),
    TRef.quaternary (TRef.of (T := ⟨S65536, .f32⟩) main_v50) (TRef.of (T := ⟨S65536, .i32⟩) main_call8_v0) (TRef.of (T := ⟨S_, .f32⟩) main_call8_cst) (TRef.of (T := ⟨S_, .i32⟩) main_call8_c) (TRef.of (T := ⟨S_, .i32⟩) main_v51) (fun x y u v j => (Host.argReduce reducer_argmax_f32_i32 x y u v reducesTo_S65536_S_d0 h_S_ j).2),
    nullary main_c (constantI S_ 32 0#32),
    binary main_v51 main_c main_v52 (cmpi .slt : (⟨S_, .i32⟩ : BufTy).Contents (Elt F) → (⟨S_, .i32⟩ : BufTy).Contents (Elt F) → (⟨S_, .i1⟩ : BufTy).Contents (Elt F)),
    nullary main_c_4 (constantI S_ 32 65536#32) ]

/-- The buffers that `seg9` writes. -/
def seg9W : List (Ref sig .tc) :=
  [main_call8_v0, main_call8_cst, main_call8_c, main_call8_v1_0, main_v51, main_c, main_v52, main_c_4]

/-- The operations of @main that end by writing `main_v56`. -/
def seg10 : List (HloOp τ sig (Elt F)) :=
  [ binary main_v51 main_c_4 main_v53 (addi : (⟨S_, .i32⟩ : BufTy).Contents (Elt F) → (⟨S_, .i32⟩ : BufTy).Contents (Elt F) → (⟨S_, .i32⟩ : BufTy).Contents (Elt F)),
    ternary main_v52 main_v53 main_v51 main_v54 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v50 ![main_v54] ⟨S_, .i32⟩ main_v55 ((fun x i => Host.dynamicSlice S1 x (fun k => (i k (Shape.Idx.first h_S_)).toInt) sliceFits_S65536_S1) : (⟨S65536, .f32⟩ : BufTy).Contents (Elt F) → (Fin 1 → (⟨S_, .i32⟩ : BufTy).Contents (Elt F)) → (⟨S1, .f32⟩ : BufTy).Contents (Elt F)),
    reshape main_v55 main_v56 (rfl : (.f32 : EltTy) = .f32) shapeCasts_S1_S_ ]

/-- The buffers that `seg10` writes. -/
def seg10W : List (Ref sig .tc) :=
  [main_v53, main_v54, main_v55, main_v56]

/-- The operations of @main that end by writing `main_v59`. -/
def seg11 : List (HloOp τ sig (Elt F)) :=
  [ binary main_v31 main_arg18 main_v57 ((fun l r => Host.dotGeneral dot_S256_S256x256_S256_0_0_n_1_n_n none l r) : (⟨S256, .f32⟩ : BufTy).Contents (Elt F) → (⟨S256x256, .f32⟩ : BufTy).Contents (Elt F) → (⟨S256, .f32⟩ : BufTy).Contents (Elt F)),
    binary main_v57 main_arg19 main_v58 (addf : (⟨S256, .f32⟩ : BufTy).Contents (Elt F) → (⟨S256, .f32⟩ : BufTy).Contents (Elt F) → (⟨S256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S256, .f32⟩) main_call9_v0) (broadcastInDim S256 ![] bcast_S_S256),
    TRef.binary (TRef.of (T := ⟨S256, .f32⟩) main_v58) (TRef.of (T := ⟨S256, .f32⟩) main_call9_v0) (TRef.of (T := ⟨S256, .i1⟩) main_call9_v1) (cmpf .ogt),
    TRef.nullary (TRef.of (T := ⟨S_, .f32⟩) main_call9_cst_0) (constant S_ .f32 0x00000000#32),
    TRef.unary (TRef.of (T := ⟨S_, .f32⟩) main_call9_cst_0) (TRef.of (T := ⟨S256, .f32⟩) main_call9_v2) (broadcastInDim S256 ![] bcast_S_S256),
    TRef.binary (TRef.of (T := ⟨S256, .f32⟩) main_v58) (TRef.of (T := ⟨S256, .f32⟩) main_call9_v2) (TRef.of (T := ⟨S256, .i1⟩) main_call9_v3) (cmpf .ogt),
    TRef.nullary (TRef.of (T := ⟨S_, .f32⟩) main_call9_cst_1) (constant S_ .f32 0x00000000#32),
    TRef.unary (TRef.of (T := ⟨S_, .f32⟩) main_call9_cst_1) (TRef.of (T := ⟨S_, .f32⟩) main_call9_call0_v0) id,
    TRef.unary (TRef.of (T := ⟨S_, .f32⟩) main_call9_call0_v0) (TRef.of (T := ⟨S256, .f32⟩) main_call9_call0_v1) (broadcastInDim S256 ![] bcast_S_S256),
    TRef.ternary (TRef.of (T := ⟨S256, .i1⟩) main_call9_v3) (TRef.of (T := ⟨S256, .f32⟩) main_call9_call0_v1) (TRef.of (T := ⟨S256, .f32⟩) main_v58) (TRef.of (T := ⟨S256, .f32⟩) main_call9_v4) select,
    TRef.unary (TRef.of (T := ⟨S256, .f32⟩) main_call9_v4) (TRef.of (T := ⟨S256, .f32⟩) main_call9_v5) Host.expm1,
    TRef.nullary (TRef.of (T := ⟨S_, .f32⟩) main_call9_cst_2) (constant S_ .f32 0x3F800000#32),
    TRef.unary (TRef.of (T := ⟨S_, .f32⟩) main_call9_cst_2) (TRef.of (T := ⟨S256, .f32⟩) main_call9_v6) (broadcastInDim S256 ![] bcast_S_S256),
    TRef.binary (TRef.of (T := ⟨S256, .f32⟩) main_call9_v6) (TRef.of (T := ⟨S256, .f32⟩) main_call9_v5) (TRef.of (T := ⟨S256, .f32⟩) main_call9_v7) mulf,
    TRef.ternary (TRef.of (T := ⟨S256, .i1⟩) main_call9_v1) (TRef.of (T := ⟨S256, .f32⟩) main_v58) (TRef.of (T := ⟨S256, .f32⟩) main_call9_v7) (TRef.of (T := ⟨S256, .f32⟩) main_v59) select ]

/-- The buffers that `seg11` writes. -/
def seg11W : List (Ref sig .tc) :=
  [main_v57, main_v58, main_call9_cst, main_call9_v0, main_call9_v1, main_call9_cst_0, main_call9_v2, main_call9_v3, main_call9_cst_1, main_call9_call0_v0, main_call9_call0_v1, main_call9_v4, main_call9_v5, main_call9_cst_2, main_call9_v6, main_call9_v7, main_v59]

/-- The operations of @main that end by writing `main_v62`. -/
def seg12 : List (HloOp τ sig (Elt F)) :=
  [ binary main_v59 main_arg20 main_v60 ((fun l r => Host.dotGeneral dot_S256_S256x256_S256_0_0_n_1_n_n none l r) : (⟨S256, .f32⟩ : BufTy).Contents (Elt F) → (⟨S256x256, .f32⟩ : BufTy).Contents (Elt F) → (⟨S256, .f32⟩ : BufTy).Contents (Elt F)),
    binary main_v60 main_arg21 main_v61 (addf : (⟨S256, .f32⟩ : BufTy).Contents (Elt F) → (⟨S256, .f32⟩ : BufTy).Contents (Elt F) → (⟨S256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S256, .f32⟩) main_call10_v0) (broadcastInDim S256 ![] bcast_S_S256),
    TRef.binary (TRef.of (T := ⟨S256, .f32⟩) main_v61) (TRef.of (T := ⟨S256, .f32⟩) main_call10_v0) (TRef.of (T := ⟨S256, .i1⟩) main_call10_v1) (cmpf .ogt),
    TRef.nullary (TRef.of (T := ⟨S_, .f32⟩) main_call10_cst_0) (constant S_ .f32 0x00000000#32),
    TRef.unary (TRef.of (T := ⟨S_, .f32⟩) main_call10_cst_0) (TRef.of (T := ⟨S256, .f32⟩) main_call10_v2) (broadcastInDim S256 ![] bcast_S_S256),
    TRef.binary (TRef.of (T := ⟨S256, .f32⟩) main_v61) (TRef.of (T := ⟨S256, .f32⟩) main_call10_v2) (TRef.of (T := ⟨S256, .i1⟩) main_call10_v3) (cmpf .ogt),
    TRef.nullary (TRef.of (T := ⟨S_, .f32⟩) main_call10_cst_1) (constant S_ .f32 0x00000000#32),
    TRef.unary (TRef.of (T := ⟨S_, .f32⟩) main_call10_cst_1) (TRef.of (T := ⟨S_, .f32⟩) main_call10_call0_v0) id,
    TRef.unary (TRef.of (T := ⟨S_, .f32⟩) main_call10_call0_v0) (TRef.of (T := ⟨S256, .f32⟩) main_call10_call0_v1) (broadcastInDim S256 ![] bcast_S_S256),
    TRef.ternary (TRef.of (T := ⟨S256, .i1⟩) main_call10_v3) (TRef.of (T := ⟨S256, .f32⟩) main_call10_call0_v1) (TRef.of (T := ⟨S256, .f32⟩) main_v61) (TRef.of (T := ⟨S256, .f32⟩) main_call10_v4) select,
    TRef.unary (TRef.of (T := ⟨S256, .f32⟩) main_call10_v4) (TRef.of (T := ⟨S256, .f32⟩) main_call10_v5) Host.expm1,
    TRef.nullary (TRef.of (T := ⟨S_, .f32⟩) main_call10_cst_2) (constant S_ .f32 0x3F800000#32),
    TRef.unary (TRef.of (T := ⟨S_, .f32⟩) main_call10_cst_2) (TRef.of (T := ⟨S256, .f32⟩) main_call10_v6) (broadcastInDim S256 ![] bcast_S_S256),
    TRef.binary (TRef.of (T := ⟨S256, .f32⟩) main_call10_v6) (TRef.of (T := ⟨S256, .f32⟩) main_call10_v5) (TRef.of (T := ⟨S256, .f32⟩) main_call10_v7) mulf,
    TRef.ternary (TRef.of (T := ⟨S256, .i1⟩) main_call10_v1) (TRef.of (T := ⟨S256, .f32⟩) main_v61) (TRef.of (T := ⟨S256, .f32⟩) main_call10_v7) (TRef.of (T := ⟨S256, .f32⟩) main_v62) select ]

/-- The buffers that `seg12` writes. -/
def seg12W : List (Ref sig .tc) :=
  [main_v60, main_v61, main_call10_cst, main_call10_v0, main_call10_v1, main_call10_cst_0, main_call10_v2, main_call10_v3, main_call10_cst_1, main_call10_call0_v0, main_call10_call0_v1, main_call10_v4, main_call10_v5, main_call10_cst_2, main_call10_v6, main_call10_v7, main_v62]

/-- The operations of @main that end by writing `main_v68`. -/
def seg13 : List (HloOp τ sig (Elt F)) :=
  [ binary main_v62 main_arg22 main_v63 ((fun l r => Host.dotGeneral dot_S256_S256x1_S1_0_0_n_1_n_n none l r) : (⟨S256, .f32⟩ : BufTy).Contents (Elt F) → (⟨S256x1, .f32⟩ : BufTy).Contents (Elt F) → (⟨S1, .f32⟩ : BufTy).Contents (Elt F)),
    binary main_v63 main_arg23 main_v64 (addf : (⟨S1, .f32⟩ : BufTy).Contents (Elt F) → (⟨S1, .f32⟩ : BufTy).Contents (Elt F) → (⟨S1, .f32⟩ : BufTy).Contents (Elt F)),
    reshape main_v64 main_v65 (rfl : (.f32 : EltTy) = .f32) shapeCasts_S1_S_,
    reshape main_v51 main_v66 (rfl : (.i32 : EltTy) = .i32) shapeCasts_S_S1x1,
    reshape main_v56 main_v67 (rfl : (.f32 : EltTy) = .f32) shapeCasts_S_S1x1,
    reshape main_v65 main_v68 (rfl : (.f32 : EltTy) = .f32) shapeCasts_S_S1x1 ]

/-- The buffers that `seg13` writes. -/
def seg13W : List (Ref sig .tc) :=
  [main_v63, main_v64, main_v65, main_v66, main_v67, main_v68]

/-! ## What each segment computes -/

/-- The activation, as the reference spells it. -/
def act (s : Shape) (h : S_.BroadcastsInDim s (![] : Fin 0 → Fin s.rank)) (x : Arr F s .f32) : Arr F s .f32 :=
  select (cmpf .ogt x (broadcastInDim s ![] h (constant S_ .f32 0x00000000#32))) x
    (mulf (broadcastInDim s ![] h (constant S_ .f32 0x3F800000#32))
      (Host.expm1 (select (cmpf .ogt x (broadcastInDim s ![] h (constant S_ .f32 0x00000000#32)))
        (broadcastInDim s ![] h (id (constant S_ .f32 0x00000000#32))) x)))

/-- A dense layer over the 32 cranes. -/
def craneLayer (x : Arr F S32x128 .f32) (W : Arr F S128x128 .f32) (b : Arr F S128 .f32) : Arr F S32x128 .f32 :=
  act S32x128 bcast_S_S32x128 (addf (Host.dotGeneral dot_S32x128_S128x128_S32x128_1_0_0_1_n_n none x W)
    (broadcastInDim S32x128 ![0, 1] bcast_S1x128_S32x128_0_1 (broadcastInDim S1x128 ![1] bcast_S128_S1x128_1 b)))

/-- A dense layer over the 2048 piles. -/
def pileLayer (x : Arr F S2048x128 .f32) (W : Arr F S128x128 .f32) (b : Arr F S128 .f32) : Arr F S2048x128 .f32 :=
  act S2048x128 bcast_S_S2048x128 (addf (Host.dotGeneral dot_S2048x128_S128x128_S2048x128_1_0_0_1_n_n none x W)
    (broadcastInDim S2048x128 ![0, 1] bcast_S1x128_S2048x128_0_1 (broadcastInDim S1x128 ![1] bcast_S128_S1x128_1 b)))

/-- The pair features of the cranes `hc` and the piles `hp`. -/
def pairs (hc : Arr F S32x128 .f32) (hp : Arr F S2048x128 .f32) : Arr F S2048x32x256 .f32 :=
  joinPairs
    (broadcastInDim S2048x32x128 ![0, 1, 2] bcast_S1x32x128_S2048x32x128_0_1_2 (broadcastInDim S1x32x128 ![1, 2] bcast_S32x128_S1x32x128_1_2 hc))
    (broadcastInDim S2048x32x128 ![0, 1, 2] bcast_S2048x1x128_S2048x32x128_0_1_2 (broadcastInDim S2048x1x128 ![0, 2] bcast_S2048x128_S2048x1x128_0_2 hp))

/-- The critic's input from the cranes and the piles. -/
def means (hc : Arr F S32x128 .f32) (hp : Arr F S2048x128 .f32) : Arr F S256 .f32 :=
  joinMeans
    (Host.divf (Host.reduceAdd hc (constant S_ .f32 0x00000000#32) reducesTo_S32x128_S128_d0 h_S_) (broadcastInDim S128 ![] bcast_S_S128 (constant S_ .f32 0x42000000#32)))
    (Host.divf (Host.reduceAdd hp (constant S_ .f32 0x00000000#32) reducesTo_S2048x128_S128_d0 h_S_) (broadcastInDim S128 ![] bcast_S_S128 (constant S_ .f32 0x45000000#32)))

/-- A dense layer over the pairs. -/
def pairLayer (x : Arr F S2048x32x256 .f32) (W : Arr F S256x256 .f32) (b : Arr F S256 .f32) : Arr F S2048x32x256 .f32 :=
  act S2048x32x256 bcast_S_S2048x32x256 (addf (Host.dotGeneral dot_S2048x32x256_S256x256_S2048x32x256_2_0_01_1_n_n none x W)
    (broadcastInDim S2048x32x256 ![0, 1, 2] bcast_S1x1x256_S2048x32x256_0_1_2 (broadcastInDim S1x1x256 ![2] bcast_S256_S1x1x256_2 b)))

/-- The actor's last layer, flattened, with the forbidden pairs set to −∞. -/
def logits (x : Arr F S2048x32x256 .f32) (W : Arr F S256x1 .f32) (b : Arr F S1 .f32) (mask : Arr F S32x2048 .i1) : Arr F S65536 .f32 :=
  select (shapeCast S65536 (transpose S2048x32 [1, 0] mask transposes_S32x2048_S2048x32_1_0) shapeCasts_S2048x32_S65536)
    (shapeCast S65536 (addf (Host.dotGeneral dot_S2048x32x256_S256x1_S2048x32x1_2_0_01_1_n_n none x W)
      (broadcastInDim S2048x32x1 ![0, 1, 2] bcast_S1x1x1_S2048x32x1_0_1_2 (broadcastInDim S1x1x1 ![2] bcast_S1_S1x1x1_2 b))) shapeCasts_S2048x32x1_S65536)
    (broadcastInDim S65536 ![] bcast_S_S65536 (id (constant S_ .f32 0xFF800000#32)))

/-- The logits less their maximum. -/
def centred (l : Arr F S65536 .f32) : Arr F S65536 .f32 :=
  subf l (broadcastInDim S65536 ![0] bcast_S1_S65536_0 (broadcastInDim S1 ![] bcast_S_S1
    (maximumf (constant S_ .f32 0xFF800000#32) (Host.reduce FloatOps.maximumf l (constant S_ .f32 0xFF800000#32) reducesTo_S65536_S_d0 h_S_))))

/-- The logarithm of the softmax of the logits. -/
def logSoftmax (l : Arr F S65536 .f32) : Arr F S65536 .f32 :=
  subf (centred l) (broadcastInDim S65536 ![0] bcast_S1_S65536_0 (Host.log (broadcastInDim S1 ![] bcast_S_S1
    (Host.reduceAdd (Host.exp (centred l)) (constant S_ .f32 0x00000000#32) reducesTo_S65536_S_d0 h_S_))))

/-- The first index at which `l` is largest. -/
def best (l : Arr F S65536 .f32) : Arr F S_ .i32 :=
  fun j => (Host.argReduce reducer_argmax_f32_i32 l (iotaInDim S65536 32 0) (constant S_ .f32 0xFF800000#32) (constantI S_ 32 0#32) reducesTo_S65536_S_d0 h_S_ j).2

/-- The entry of `l` at index `i`, a negative index counted from the end. -/
def entryAt (l : Arr F S65536 .f32) (i : Arr F S_ .i32) : Arr F S_ .f32 :=
  shapeCast S_ (Host.dynamicSlice S1 l
    (fun _ => ((select (cmpi .slt i (constantI S_ 32 0#32)) (addi i (constantI S_ 32 65536#32)) i : Arr F S_ .i32) (Shape.Idx.first h_S_)).toInt)
    sliceFits_S65536_S1) shapeCasts_S1_S_

/-- A dense layer of the critic. -/
def criticLayer (x : Arr F S256 .f32) (W : Arr F S256x256 .f32) (b : Arr F S256 .f32) : Arr F S256 .f32 :=
  act S256 bcast_S_S256 (addf (Host.dotGeneral dot_S256_S256x256_S256_0_0_n_1_n_n none x W) b)

/-- The critic's last layer. -/
def criticOut (x : Arr F S256 .f32) (W : Arr F S256x1 .f32) (b : Arr F S1 .f32) : Arr F S_ .f32 :=
  shapeCast S_ (addf (Host.dotGeneral dot_S256_S256x1_S1_0_0_n_1_n_n none x W) b) shapeCasts_S1_S_

/-! ## The segments' lemmas -/

theorem seg0_keep (V : Valuation τ sig (Elt F)) (r : Ref sig .tc) (h : r ∉ seg0W) :
    after seg0 V (Proc.devRef .tc r) = V (Proc.devRef .tc r) :=
  after_of_writes_sub _ _ (forall_writes_sub_of_map (W := seg0W) rfl) h

theorem seg1_keep (V : Valuation τ sig (Elt F)) (r : Ref sig .tc) (h : r ∉ seg1W) :
    after seg1 V (Proc.devRef .tc r) = V (Proc.devRef .tc r) :=
  after_of_writes_sub _ _ (forall_writes_sub_of_map (W := seg1W) rfl) h

theorem seg2_keep (V : Valuation τ sig (Elt F)) (r : Ref sig .tc) (h : r ∉ seg2W) :
    after seg2 V (Proc.devRef .tc r) = V (Proc.devRef .tc r) :=
  after_of_writes_sub _ _ (forall_writes_sub_of_map (W := seg2W) rfl) h

theorem seg3_keep (V : Valuation τ sig (Elt F)) (r : Ref sig .tc) (h : r ∉ seg3W) :
    after seg3 V (Proc.devRef .tc r) = V (Proc.devRef .tc r) :=
  after_of_writes_sub _ _ (forall_writes_sub_of_map (W := seg3W) rfl) h

theorem seg4_keep (V : Valuation τ sig (Elt F)) (r : Ref sig .tc) (h : r ∉ seg4W) :
    after seg4 V (Proc.devRef .tc r) = V (Proc.devRef .tc r) :=
  after_of_writes_sub _ _ (forall_writes_sub_of_map (W := seg4W) rfl) h

theorem seg5_keep (V : Valuation τ sig (Elt F)) (r : Ref sig .tc) (h : r ∉ seg5W) :
    after seg5 V (Proc.devRef .tc r) = V (Proc.devRef .tc r) :=
  after_of_writes_sub _ _ (forall_writes_sub_of_map (W := seg5W) rfl) h

theorem seg6_keep (V : Valuation τ sig (Elt F)) (r : Ref sig .tc) (h : r ∉ seg6W) :
    after seg6 V (Proc.devRef .tc r) = V (Proc.devRef .tc r) :=
  after_of_writes_sub _ _ (forall_writes_sub_of_map (W := seg6W) rfl) h

theorem seg7_keep (V : Valuation τ sig (Elt F)) (r : Ref sig .tc) (h : r ∉ seg7W) :
    after seg7 V (Proc.devRef .tc r) = V (Proc.devRef .tc r) :=
  after_of_writes_sub _ _ (forall_writes_sub_of_map (W := seg7W) rfl) h

theorem seg8_keep (V : Valuation τ sig (Elt F)) (r : Ref sig .tc) (h : r ∉ seg8W) :
    after seg8 V (Proc.devRef .tc r) = V (Proc.devRef .tc r) :=
  after_of_writes_sub _ _ (forall_writes_sub_of_map (W := seg8W) rfl) h

theorem seg9_keep (V : Valuation τ sig (Elt F)) (r : Ref sig .tc) (h : r ∉ seg9W) :
    after seg9 V (Proc.devRef .tc r) = V (Proc.devRef .tc r) :=
  after_of_writes_sub _ _ (forall_writes_sub_of_map (W := seg9W) rfl) h

theorem seg10_keep (V : Valuation τ sig (Elt F)) (r : Ref sig .tc) (h : r ∉ seg10W) :
    after seg10 V (Proc.devRef .tc r) = V (Proc.devRef .tc r) :=
  after_of_writes_sub _ _ (forall_writes_sub_of_map (W := seg10W) rfl) h

theorem seg11_keep (V : Valuation τ sig (Elt F)) (r : Ref sig .tc) (h : r ∉ seg11W) :
    after seg11 V (Proc.devRef .tc r) = V (Proc.devRef .tc r) :=
  after_of_writes_sub _ _ (forall_writes_sub_of_map (W := seg11W) rfl) h

theorem seg12_keep (V : Valuation τ sig (Elt F)) (r : Ref sig .tc) (h : r ∉ seg12W) :
    after seg12 V (Proc.devRef .tc r) = V (Proc.devRef .tc r) :=
  after_of_writes_sub _ _ (forall_writes_sub_of_map (W := seg12W) rfl) h

theorem seg13_keep (V : Valuation τ sig (Elt F)) (r : Ref sig .tc) (h : r ∉ seg13W) :
    after seg13 V (Proc.devRef .tc r) = V (Proc.devRef .tc r) :=
  after_of_writes_sub _ _ (forall_writes_sub_of_map (W := seg13W) rfl) h

set_option maxRecDepth 8192 in
set_option maxHeartbeats 900000 in
theorem seg0_v4 (V : Valuation τ sig (Elt F)) : after seg0 V (no_index (Proc.devRef .tc main_v4)) =
    craneLayer (V (Proc.devRef .tc main_arg0)) (V (Proc.devRef .tc main_arg4)) (V (Proc.devRef .tc main_arg5)) := by
  simp only [seg0, TRef.binary, TRef.nullary, TRef.ternary, TRef.quaternary, TRef.unary, TRef.toBuf, TRef.ofBuf, cast_eq]
  after_results_entrywise [craneLayer, act, cast_eq]

set_option maxRecDepth 8192 in
set_option maxHeartbeats 900000 in
theorem seg1_v9 (V : Valuation τ sig (Elt F)) : after seg1 V (no_index (Proc.devRef .tc main_v9)) =
    craneLayer (V (Proc.devRef .tc main_v4)) (V (Proc.devRef .tc main_arg6)) (V (Proc.devRef .tc main_arg7)) := by
  simp only [seg1, TRef.binary, TRef.nullary, TRef.ternary, TRef.quaternary, TRef.unary, TRef.toBuf, TRef.ofBuf, cast_eq]
  after_results_entrywise [craneLayer, act, cast_eq]

set_option maxRecDepth 8192 in
set_option maxHeartbeats 900000 in
theorem seg2_v14 (V : Valuation τ sig (Elt F)) : after seg2 V (no_index (Proc.devRef .tc main_v14)) =
    pileLayer (V (Proc.devRef .tc main_arg1)) (V (Proc.devRef .tc main_arg8)) (V (Proc.devRef .tc main_arg9)) := by
  simp only [seg2, TRef.binary, TRef.nullary, TRef.ternary, TRef.quaternary, TRef.unary, TRef.toBuf, TRef.ofBuf, cast_eq]
  after_results_entrywise [pileLayer, act, cast_eq]

set_option maxRecDepth 8192 in
set_option maxHeartbeats 900000 in
theorem seg3_v19 (V : Valuation τ sig (Elt F)) : after seg3 V (no_index (Proc.devRef .tc main_v19)) =
    pileLayer (V (Proc.devRef .tc main_v14)) (V (Proc.devRef .tc main_arg10)) (V (Proc.devRef .tc main_arg11)) := by
  simp only [seg3, TRef.binary, TRef.nullary, TRef.ternary, TRef.quaternary, TRef.unary, TRef.toBuf, TRef.ofBuf, cast_eq]
  after_results_entrywise [pileLayer, act, cast_eq]

set_option maxRecDepth 8192 in
set_option maxHeartbeats 900000 in
theorem seg4_v30 (V : Valuation τ sig (Elt F)) : after seg4 V (no_index (Proc.devRef .tc main_v30)) =
    pairs (V (Proc.devRef .tc main_v9)) (V (Proc.devRef .tc main_v19)) := by
  simp only [seg4, TRef.binary, TRef.nullary, TRef.ternary, TRef.quaternary, TRef.unary, TRef.toBuf, TRef.ofBuf, cast_eq]
  after_results_entrywise [pairs, cast_eq]

set_option maxRecDepth 8192 in
set_option maxHeartbeats 900000 in
theorem seg4_v31 (V : Valuation τ sig (Elt F)) : after seg4 V (no_index (Proc.devRef .tc main_v31)) =
    means (V (Proc.devRef .tc main_v9)) (V (Proc.devRef .tc main_v19)) := by
  simp only [seg4, TRef.binary, TRef.nullary, TRef.ternary, TRef.quaternary, TRef.unary, TRef.toBuf, TRef.ofBuf, cast_eq]
  after_results_entrywise [means, cast_eq]

set_option maxRecDepth 8192 in
set_option maxHeartbeats 900000 in
theorem seg5_v36 (V : Valuation τ sig (Elt F)) : after seg5 V (no_index (Proc.devRef .tc main_v36)) =
    pairLayer (V (Proc.devRef .tc main_v30)) (V (Proc.devRef .tc main_arg12)) (V (Proc.devRef .tc main_arg13)) := by
  simp only [seg5, TRef.binary, TRef.nullary, TRef.ternary, TRef.quaternary, TRef.unary, TRef.toBuf, TRef.ofBuf, cast_eq]
  after_results_entrywise [pairLayer, act, cast_eq]

set_option maxRecDepth 8192 in
set_option maxHeartbeats 900000 in
theorem seg6_v41 (V : Valuation τ sig (Elt F)) : after seg6 V (no_index (Proc.devRef .tc main_v41)) =
    pairLayer (V (Proc.devRef .tc main_v36)) (V (Proc.devRef .tc main_arg14)) (V (Proc.devRef .tc main_arg15)) := by
  simp only [seg6, TRef.binary, TRef.nullary, TRef.ternary, TRef.quaternary, TRef.unary, TRef.toBuf, TRef.ofBuf, cast_eq]
  after_results_entrywise [pairLayer, act, cast_eq]

set_option maxRecDepth 8192 in
set_option maxHeartbeats 900000 in
theorem seg7_v49 (V : Valuation τ sig (Elt F)) : after seg7 V (no_index (Proc.devRef .tc main_v49)) =
    logits (V (Proc.devRef .tc main_v41)) (V (Proc.devRef .tc main_arg16)) (V (Proc.devRef .tc main_arg17)) (V (Proc.devRef .tc main_arg2)) := by
  simp only [seg7, TRef.binary, TRef.nullary, TRef.ternary, TRef.quaternary, TRef.unary, TRef.toBuf, TRef.ofBuf, cast_eq]
  after_results_entrywise [logits, cast_eq]

set_option maxRecDepth 8192 in
set_option maxHeartbeats 900000 in
theorem seg8_v50 (V : Valuation τ sig (Elt F)) : after seg8 V (no_index (Proc.devRef .tc main_v50)) =
    logSoftmax (V (Proc.devRef .tc main_v49)) := by
  simp only [seg8, TRef.binary, TRef.nullary, TRef.ternary, TRef.quaternary, TRef.unary, TRef.toBuf, TRef.ofBuf, cast_eq]
  after_results_entrywise [logSoftmax, centred, cast_eq]

set_option maxRecDepth 8192 in
set_option maxHeartbeats 900000 in
theorem seg9_v51 (V : Valuation τ sig (Elt F)) : after seg9 V (no_index (Proc.devRef .tc main_v51)) =
    best (V (Proc.devRef .tc main_v50)) := by
  simp only [seg9, TRef.binary, TRef.nullary, TRef.ternary, TRef.quaternary, TRef.unary, TRef.toBuf, TRef.ofBuf, cast_eq]
  after_results_entrywise [best, cast_eq]

set_option maxRecDepth 8192 in
set_option maxHeartbeats 900000 in
theorem seg9_v52 (V : Valuation τ sig (Elt F)) : after seg9 V (no_index (Proc.devRef .tc main_v52)) =
    cmpi .slt (best (V (Proc.devRef .tc main_v50))) (constantI S_ 32 0#32) := by
  simp only [seg9, TRef.binary, TRef.nullary, TRef.ternary, TRef.quaternary, TRef.unary, TRef.toBuf, TRef.ofBuf, cast_eq]
  after_results_entrywise [best, cast_eq]

set_option maxRecDepth 8192 in
set_option maxHeartbeats 900000 in
theorem seg9_c_4 (V : Valuation τ sig (Elt F)) : after seg9 V (no_index (Proc.devRef .tc main_c_4)) =
    constantI S_ 32 65536#32 := by
  simp only [seg9, TRef.binary, TRef.nullary, TRef.ternary, TRef.quaternary, TRef.unary, TRef.toBuf, TRef.ofBuf, cast_eq]
  after_results_entrywise [best, cast_eq]

set_option maxRecDepth 8192 in
set_option maxHeartbeats 900000 in
theorem seg11_v59 (V : Valuation τ sig (Elt F)) : after seg11 V (no_index (Proc.devRef .tc main_v59)) =
    criticLayer (V (Proc.devRef .tc main_v31)) (V (Proc.devRef .tc main_arg18)) (V (Proc.devRef .tc main_arg19)) := by
  simp only [seg11, TRef.binary, TRef.nullary, TRef.ternary, TRef.quaternary, TRef.unary, TRef.toBuf, TRef.ofBuf, cast_eq]
  after_results_entrywise [criticLayer, act, cast_eq]

set_option maxRecDepth 8192 in
set_option maxHeartbeats 900000 in
theorem seg12_v62 (V : Valuation τ sig (Elt F)) : after seg12 V (no_index (Proc.devRef .tc main_v62)) =
    criticLayer (V (Proc.devRef .tc main_v59)) (V (Proc.devRef .tc main_arg20)) (V (Proc.devRef .tc main_arg21)) := by
  simp only [seg12, TRef.binary, TRef.nullary, TRef.ternary, TRef.quaternary, TRef.unary, TRef.toBuf, TRef.ofBuf, cast_eq]
  after_results_entrywise [criticLayer, act, cast_eq]

set_option maxRecDepth 8192 in
set_option maxHeartbeats 900000 in
theorem seg13_v66 (V : Valuation τ sig (Elt F)) : after seg13 V (no_index (Proc.devRef .tc main_v66)) =
    shapeCast S1x1 (V (Proc.devRef .tc main_v51)) shapeCasts_S_S1x1 := by
  simp only [seg13, TRef.binary, TRef.nullary, TRef.ternary, TRef.quaternary, TRef.unary, TRef.toBuf, TRef.ofBuf, cast_eq]
  after_results_entrywise [best, cast_eq]

set_option maxRecDepth 8192 in
set_option maxHeartbeats 900000 in
theorem seg13_v67 (V : Valuation τ sig (Elt F)) : after seg13 V (no_index (Proc.devRef .tc main_v67)) =
    shapeCast S1x1 (V (Proc.devRef .tc main_v56)) shapeCasts_S_S1x1 := by
  simp only [seg13, TRef.binary, TRef.nullary, TRef.ternary, TRef.quaternary, TRef.unary, TRef.toBuf, TRef.ofBuf, cast_eq]
  after_results_entrywise [best, cast_eq]

set_option maxRecDepth 8192 in
set_option maxHeartbeats 900000 in
theorem seg13_v68 (V : Valuation τ sig (Elt F)) : after seg13 V (no_index (Proc.devRef .tc main_v68)) =
    shapeCast S1x1 (criticOut (V (Proc.devRef .tc main_v62)) (V (Proc.devRef .tc main_arg22)) (V (Proc.devRef .tc main_arg23))) shapeCasts_S_S1x1 := by
  simp only [seg13, TRef.binary, TRef.nullary, TRef.ternary, TRef.quaternary, TRef.unary, TRef.toBuf, TRef.ofBuf, cast_eq]
  after_results_entrywise [criticOut, cast_eq]

/-! ## The whole line -/

/-- The first window of @main. -/
def ops0 : List (HloOp τ sig (Elt F)) :=
  seg0 ++ (seg1 ++ (seg2 ++ (seg3 ++ (seg4 ++ (seg5 ++ (seg6 ++ (seg7 ++ (seg8 ++ seg9))))))))

/-- The second window of @main. -/
def ops1 : List (HloOp τ sig (Elt F)) := seg10 ++ (seg11 ++ (seg12 ++ seg13))

/-- All operations of @main. -/
def ops : List (HloOp τ sig (Elt F)) := ops0 ++ ops1

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

theorem main_eq (c : Dev nD) : main (F := F) c = seq ops := by
  simp only [ops, seq_append, ← main_part0_eq c, ← main_part1_eq c]; rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand
-- ==== Proof.RefRun.lean ====
module

public import proofs.«01_k».proof.Proof.RefOps

/-!
The run of the reference program read back: the segments composed.
-/

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 900000 in
theorem seg10_v56 (V : Valuation τ sig (Elt F)) : after seg10 V (no_index (Proc.devRef .tc main_v56)) =
    shapeCast S_ (Host.dynamicSlice S1 (V (Proc.devRef .tc main_v50))
    (fun _ => ((select (V (Proc.devRef .tc main_v52)) (addi (V (Proc.devRef .tc main_v51)) (V (Proc.devRef .tc main_c_4))) (V (Proc.devRef .tc main_v51)) : Arr F S_ .i32) (Shape.Idx.first h_S_)).toInt)
    sliceFits_S65536_S1) shapeCasts_S1_S_ := by
  simp only [seg10, TRef.binary, TRef.nullary, TRef.ternary, TRef.quaternary, TRef.unary, TRef.toBuf, TRef.ofBuf, cast_eq]
  after_results_simp_entrywise
  refine congrArg (fun st : Fin 1 → ℤ => shapeCast S_ (Host.dynamicSlice S1 (V (Proc.devRef .tc main_v50)) st sliceFits_S65536_S1) shapeCasts_S1_S_)
    (funext fun k => ?_)
  fin_cases k
  rfl

theorem seg0_sub : (seg0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg1_sub : (seg1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg2_sub : (seg2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg3_sub : (seg3 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg4_sub : (seg4 : List (HloOp τ sig (Elt F))).Forall fun op => op.bufs ⊆ tcRefs τ sig :=
  ⟨nullary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., unary_bufs_sub .., unary_bufs_sub .., binary_bufs_sub .., binary_bufs_sub ..⟩
theorem seg5_sub : (seg5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg6_sub : (seg6 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg7_sub : (seg7 : List (HloOp τ sig (Elt F))).Forall fun op => op.bufs ⊆ tcRefs τ sig :=
  ⟨binary_bufs_sub .., unary_bufs_sub .., unary_bufs_sub .., binary_bufs_sub .., reshape_bufs_sub .., unary_bufs_sub .., reshape_bufs_sub .., nullary_bufs_sub .., unary_bufs_sub .., unary_bufs_sub .., ternary_bufs_sub ..⟩
theorem seg8_sub : (seg8 : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem seg9_sub : (seg9 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., binary_bufs_sub .., nullary_bufs_sub ..⟩
theorem seg10_sub : (seg10 : List (HloOp τ sig (Elt F))).Forall fun op => op.bufs ⊆ tcRefs τ sig :=
  ⟨binary_bufs_sub .., ternary_bufs_sub .., unaryIndexed_bufs_sub .., reshape_bufs_sub ..⟩
theorem seg11_sub : (seg11 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg12_sub : (seg12 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg13_sub : (seg13 : List (HloOp τ sig (Elt F))).Forall fun op => op.bufs ⊆ tcRefs τ sig :=
  ⟨binary_bufs_sub .., binary_bufs_sub .., reshape_bufs_sub .., reshape_bufs_sub .., reshape_bufs_sub .., reshape_bufs_sub ..⟩

/-- Every operation of the line reads and writes the TensorCore's buffers only. -/
theorem ops_sub : (ops : List (HloOp τ sig (Elt F))).Forall fun op => op.bufs ⊆ tcRefs τ sig := by
  simp only [ops, ops0, ops1, List.forall_append]
  exact ⟨⟨seg0_sub, seg1_sub, seg2_sub, seg3_sub, seg4_sub, seg5_sub, seg6_sub, seg7_sub, seg8_sub, seg9_sub⟩,
    seg10_sub, seg11_sub, seg12_sub, seg13_sub⟩

/-- No operation of the line leaves its results open. -/
theorem ops_fresh : ∀ op ∈ (ops : List (HloOp τ sig (Elt F))), op.fresh = ∅ :=
  List.forall_iff_forall_mem.mp (forall_fresh_of_map rfl)

/-! ## The network's values from the contents at launch -/

section
variable (V : Valuation τ sig (Elt F))

/-- The cranes' features. -/
def craneFeatures : Arr F S32x128 .f32 :=
  craneLayer (craneLayer (V (Proc.devRef .tc main_arg0)) (V (Proc.devRef .tc main_arg4)) (V (Proc.devRef .tc main_arg5)))
    (V (Proc.devRef .tc main_arg6)) (V (Proc.devRef .tc main_arg7))

/-- The piles' features. -/
def pileFeatures : Arr F S2048x128 .f32 :=
  pileLayer (pileLayer (V (Proc.devRef .tc main_arg1)) (V (Proc.devRef .tc main_arg8)) (V (Proc.devRef .tc main_arg9)))
    (V (Proc.devRef .tc main_arg10)) (V (Proc.devRef .tc main_arg11))

/-- The log-probabilities of the pairs. -/
def logProbs : Arr F S65536 .f32 :=
  logSoftmax (logits (pairLayer (pairLayer (pairs (craneFeatures V) (pileFeatures V)) (V (Proc.devRef .tc main_arg12)) (V (Proc.devRef .tc main_arg13)))
    (V (Proc.devRef .tc main_arg14)) (V (Proc.devRef .tc main_arg15))) (V (Proc.devRef .tc main_arg16)) (V (Proc.devRef .tc main_arg17)) (V (Proc.devRef .tc main_arg2)))

/-- The critic's value. -/
def criticValue : Arr F S_ .f32 :=
  criticOut (criticLayer (criticLayer (means (craneFeatures V) (pileFeatures V)) (V (Proc.devRef .tc main_arg18)) (V (Proc.devRef .tc main_arg19)))
    (V (Proc.devRef .tc main_arg20)) (V (Proc.devRef .tc main_arg21))) (V (Proc.devRef .tc main_arg22)) (V (Proc.devRef .tc main_arg23))

theorem after_ops : after ops V = after seg13 (after seg12 (after seg11 (after seg10 (after seg9 (after seg8 (after seg7
    (after seg6 (after seg5 (after seg4 (after seg3 (after seg2 (after seg1 (after seg0 V))))))))))))) := by
  simp only [ops, ops0, ops1, after_append]

/-- The contents after the segments up to number 0. -/
def st0 : Valuation τ sig (Elt F) := after seg0 V

/-- The contents after the segments up to number 1. -/
def st1 : Valuation τ sig (Elt F) := after seg1 (st0 V)

/-- The contents after the segments up to number 2. -/
def st2 : Valuation τ sig (Elt F) := after seg2 (st1 V)

/-- The contents after the segments up to number 3. -/
def st3 : Valuation τ sig (Elt F) := after seg3 (st2 V)

/-- The contents after the segments up to number 4. -/
def st4 : Valuation τ sig (Elt F) := after seg4 (st3 V)

/-- The contents after the segments up to number 5. -/
def st5 : Valuation τ sig (Elt F) := after seg5 (st4 V)

/-- The contents after the segments up to number 6. -/
def st6 : Valuation τ sig (Elt F) := after seg6 (st5 V)

/-- The contents after the segments up to number 7. -/
def st7 : Valuation τ sig (Elt F) := after seg7 (st6 V)

/-- The contents after the segments up to number 8. -/
def st8 : Valuation τ sig (Elt F) := after seg8 (st7 V)

/-- The contents after the segments up to number 9. -/
def st9 : Valuation τ sig (Elt F) := after seg9 (st8 V)

/-- The contents after the segments up to number 10. -/
def st10 : Valuation τ sig (Elt F) := after seg10 (st9 V)

/-- The contents after the segments up to number 11. -/
def st11 : Valuation τ sig (Elt F) := after seg11 (st10 V)

/-- The contents after the segments up to number 12. -/
def st12 : Valuation τ sig (Elt F) := after seg12 (st11 V)

/-- The contents after the segments up to number 13. -/
def st13 : Valuation τ sig (Elt F) := after seg13 (st12 V)

theorem after_ops_st : after ops V = st13 V := after_ops V

/-- Every buffer that some segment writes. -/
def written : List (Ref sig .tc) :=
  seg0W ++ seg1W ++ seg2W ++ seg3W ++ seg4W ++ seg5W ++ seg6W ++ seg7W ++ seg8W ++ seg9W ++ seg10W ++ seg11W ++ seg12W ++ seg13W

section
variable (r : Ref sig .tc) (h : r ∉ written)
include h

/-- A buffer that no segment writes is not among a segment's results. -/
theorem not_written : r ∉ seg0W ∧ r ∉ seg1W ∧ r ∉ seg2W ∧ r ∉ seg3W ∧ r ∉ seg4W ∧ r ∉ seg5W ∧ r ∉ seg6W ∧ r ∉ seg7W ∧ r ∉ seg8W ∧ r ∉ seg9W ∧ r ∉ seg10W ∧ r ∉ seg11W ∧ r ∉ seg12W ∧ r ∉ seg13W := by
  simp only [written, List.mem_append, not_or] at h
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := h
  exact ⟨h0, h1, h2, h3, h4, h5, h6, h7, h8, h9, h10, h11, h12, h13⟩

/-! A buffer that no segment writes holds at every stage what it held at launch. -/

theorem kept0 : st0 V (Proc.devRef .tc r) = V (Proc.devRef .tc r) := seg0_keep V r (not_written r h).1
theorem kept1 : st1 V (Proc.devRef .tc r) = V (Proc.devRef .tc r) := (seg1_keep (st0 V) r (not_written r h).2.1).trans (kept0 V r h)
theorem kept2 : st2 V (Proc.devRef .tc r) = V (Proc.devRef .tc r) := (seg2_keep (st1 V) r (not_written r h).2.2.1).trans (kept1 V r h)
theorem kept3 : st3 V (Proc.devRef .tc r) = V (Proc.devRef .tc r) := (seg3_keep (st2 V) r (not_written r h).2.2.2.1).trans (kept2 V r h)
theorem kept4 : st4 V (Proc.devRef .tc r) = V (Proc.devRef .tc r) := (seg4_keep (st3 V) r (not_written r h).2.2.2.2.1).trans (kept3 V r h)
theorem kept5 : st5 V (Proc.devRef .tc r) = V (Proc.devRef .tc r) := (seg5_keep (st4 V) r (not_written r h).2.2.2.2.2.1).trans (kept4 V r h)
theorem kept6 : st6 V (Proc.devRef .tc r) = V (Proc.devRef .tc r) := (seg6_keep (st5 V) r (not_written r h).2.2.2.2.2.2.1).trans (kept5 V r h)
theorem kept7 : st7 V (Proc.devRef .tc r) = V (Proc.devRef .tc r) := (seg7_keep (st6 V) r (not_written r h).2.2.2.2.2.2.2.1).trans (kept6 V r h)
theorem kept8 : st8 V (Proc.devRef .tc r) = V (Proc.devRef .tc r) := (seg8_keep (st7 V) r (not_written r h).2.2.2.2.2.2.2.2.1).trans (kept7 V r h)
theorem kept9 : st9 V (Proc.devRef .tc r) = V (Proc.devRef .tc r) := (seg9_keep (st8 V) r (not_written r h).2.2.2.2.2.2.2.2.2.1).trans (kept8 V r h)
theorem kept10 : st10 V (Proc.devRef .tc r) = V (Proc.devRef .tc r) := (seg10_keep (st9 V) r (not_written r h).2.2.2.2.2.2.2.2.2.2.1).trans (kept9 V r h)
theorem kept11 : st11 V (Proc.devRef .tc r) = V (Proc.devRef .tc r) := (seg11_keep (st10 V) r (not_written r h).2.2.2.2.2.2.2.2.2.2.2.1).trans (kept10 V r h)
theorem kept12 : st12 V (Proc.devRef .tc r) = V (Proc.devRef .tc r) := (seg12_keep (st11 V) r (not_written r h).2.2.2.2.2.2.2.2.2.2.2.2.1).trans (kept11 V r h)
theorem kept13 : st13 V (Proc.devRef .tc r) = V (Proc.devRef .tc r) := (seg13_keep (st12 V) r (not_written r h).2.2.2.2.2.2.2.2.2.2.2.2.2).trans (kept12 V r h)

end

theorem at_v4 : st0 V (Proc.devRef .tc main_v4) = craneLayer (V (Proc.devRef .tc main_arg0)) (V (Proc.devRef .tc main_arg4)) (V (Proc.devRef .tc main_arg5)) :=
  seg0_v4 V

theorem at_v9 : st1 V (Proc.devRef .tc main_v9) = craneFeatures V := by
  refine (seg1_v9 (st0 V)).trans ?_
  rw [at_v4, kept0 V main_arg6 (by decide), kept0 V main_arg7 (by decide), craneFeatures]

theorem keep_v9 : st3 V (Proc.devRef .tc main_v9) = craneFeatures V :=
  (seg3_keep (st2 V) main_v9 (by decide)).trans ((seg2_keep (st1 V) main_v9 (by decide)).trans (at_v9 V))

theorem at_v14 : st2 V (Proc.devRef .tc main_v14) = pileLayer (V (Proc.devRef .tc main_arg1)) (V (Proc.devRef .tc main_arg8)) (V (Proc.devRef .tc main_arg9)) := by
  refine (seg2_v14 (st1 V)).trans ?_
  rw [kept1 V main_arg1 (by decide), kept1 V main_arg8 (by decide), kept1 V main_arg9 (by decide)]

theorem at_v19 : st3 V (Proc.devRef .tc main_v19) = pileFeatures V := by
  refine (seg3_v19 (st2 V)).trans ?_
  rw [at_v14, kept2 V main_arg10 (by decide), kept2 V main_arg11 (by decide), pileFeatures]

theorem at_v30 : st4 V (Proc.devRef .tc main_v30) = pairs (craneFeatures V) (pileFeatures V) := by
  refine (seg4_v30 (st3 V)).trans ?_
  rw [keep_v9, at_v19]

theorem at_v31 : st4 V (Proc.devRef .tc main_v31) = means (craneFeatures V) (pileFeatures V) := by
  refine (seg4_v31 (st3 V)).trans ?_
  rw [keep_v9, at_v19]

theorem keep_v31 : st10 V (Proc.devRef .tc main_v31) = means (craneFeatures V) (pileFeatures V) :=
  (seg10_keep (st9 V) main_v31 (by decide)).trans ((seg9_keep (st8 V) main_v31 (by decide)).trans ((seg8_keep (st7 V) main_v31 (by decide)).trans ((seg7_keep (st6 V) main_v31 (by decide)).trans ((seg6_keep (st5 V) main_v31 (by decide)).trans ((seg5_keep (st4 V) main_v31 (by decide)).trans (at_v31 V))))))

theorem at_v36 : st5 V (Proc.devRef .tc main_v36) = pairLayer (pairs (craneFeatures V) (pileFeatures V)) (V (Proc.devRef .tc main_arg12)) (V (Proc.devRef .tc main_arg13)) := by
  refine (seg5_v36 (st4 V)).trans ?_
  rw [at_v30, kept4 V main_arg12 (by decide), kept4 V main_arg13 (by decide)]

theorem at_v41 : st6 V (Proc.devRef .tc main_v41) = pairLayer (pairLayer (pairs (craneFeatures V) (pileFeatures V)) (V (Proc.devRef .tc main_arg12)) (V (Proc.devRef .tc main_arg13))) (V (Proc.devRef .tc main_arg14)) (V (Proc.devRef .tc main_arg15)) := by
  refine (seg6_v41 (st5 V)).trans ?_
  rw [at_v36, kept5 V main_arg14 (by decide), kept5 V main_arg15 (by decide)]

theorem at_v49 : st7 V (Proc.devRef .tc main_v49) = logits (pairLayer (pairLayer (pairs (craneFeatures V) (pileFeatures V)) (V (Proc.devRef .tc main_arg12)) (V (Proc.devRef .tc main_arg13))) (V (Proc.devRef .tc main_arg14)) (V (Proc.devRef .tc main_arg15))) (V (Proc.devRef .tc main_arg16)) (V (Proc.devRef .tc main_arg17)) (V (Proc.devRef .tc main_arg2)) := by
  refine (seg7_v49 (st6 V)).trans ?_
  rw [at_v41, kept6 V main_arg16 (by decide), kept6 V main_arg17 (by decide), kept6 V main_arg2 (by decide)]

theorem at_v50 : st8 V (Proc.devRef .tc main_v50) = logProbs V := by
  refine (seg8_v50 (st7 V)).trans ?_
  rw [at_v49, logProbs]

theorem keep_v50 : st9 V (Proc.devRef .tc main_v50) = logProbs V :=
  (seg9_keep (st8 V) main_v50 (by decide)).trans (at_v50 V)

theorem at_v51 : st9 V (Proc.devRef .tc main_v51) = best (logProbs V) := by
  refine (seg9_v51 (st8 V)).trans ?_
  rw [at_v50]

theorem at_v52 : st9 V (Proc.devRef .tc main_v52) = cmpi .slt (best (logProbs V)) (constantI S_ 32 0#32) := by
  refine (seg9_v52 (st8 V)).trans ?_
  rw [at_v50]

theorem at_c_4 : st9 V (Proc.devRef .tc main_c_4) = constantI S_ 32 65536#32 := seg9_c_4 (st8 V)

theorem at_v56 : st10 V (Proc.devRef .tc main_v56) = entryAt (logProbs V) (best (logProbs V)) := by
  refine (seg10_v56 (st9 V)).trans ?_
  rw [keep_v50, at_v52, at_v51, at_c_4]
  rfl

theorem keep_v51 : st12 V (Proc.devRef .tc main_v51) = best (logProbs V) :=
  (seg12_keep (st11 V) main_v51 (by decide)).trans ((seg11_keep (st10 V) main_v51 (by decide)).trans ((seg10_keep (st9 V) main_v51 (by decide)).trans (at_v51 V)))

theorem keep_v56 : st12 V (Proc.devRef .tc main_v56) = entryAt (logProbs V) (best (logProbs V)) :=
  (seg12_keep (st11 V) main_v56 (by decide)).trans ((seg11_keep (st10 V) main_v56 (by decide)).trans (at_v56 V))

theorem at_v59 : st11 V (Proc.devRef .tc main_v59) = criticLayer (means (craneFeatures V) (pileFeatures V)) (V (Proc.devRef .tc main_arg18)) (V (Proc.devRef .tc main_arg19)) := by
  refine (seg11_v59 (st10 V)).trans ?_
  rw [keep_v31, kept10 V main_arg18 (by decide), kept10 V main_arg19 (by decide)]

theorem at_v62 : st12 V (Proc.devRef .tc main_v62) = criticLayer (criticLayer (means (craneFeatures V) (pileFeatures V)) (V (Proc.devRef .tc main_arg18)) (V (Proc.devRef .tc main_arg19))) (V (Proc.devRef .tc main_arg20)) (V (Proc.devRef .tc main_arg21)) := by
  refine (seg12_v62 (st11 V)).trans ?_
  rw [at_v59, kept11 V main_arg20 (by decide), kept11 V main_arg21 (by decide)]

theorem at_v66 : st13 V (Proc.devRef .tc main_v66) = shapeCast S1x1 (best (logProbs V)) shapeCasts_S_S1x1 := by
  refine (seg13_v66 (st12 V)).trans ?_
  rw [keep_v51]

theorem at_v67 : st13 V (Proc.devRef .tc main_v67) = shapeCast S1x1 (entryAt (logProbs V) (best (logProbs V))) shapeCasts_S_S1x1 := by
  refine (seg13_v67 (st12 V)).trans ?_
  rw [keep_v56]

theorem at_v68 : st13 V (Proc.devRef .tc main_v68) = shapeCast S1x1 (criticValue V) shapeCasts_S_S1x1 := by
  refine (seg13_v68 (st12 V)).trans ?_
  rw [at_v62, kept12 V main_arg22 (by decide), kept12 V main_arg23 (by decide), criticValue]

end

/-- On every device, from any memory with zero counters: every weakly fair execution of @main ends with the best
    pair's index, its log-probability and the critic's value in the three result buffers, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = shapeCast S1x1 (best (logProbs (launchContents m c))) shapeCasts_S_S1x1
      ∧ r.2.mem ((c.tc : Thread nD τ).loc main_v67) = shapeCast S1x1 (entryAt (logProbs (launchContents m c)) (best (logProbs (launchContents m c)))) shapeCasts_S_S1x1
      ∧ r.2.mem ((c.tc : Thread nD τ).loc main_v68) = shapeCast S1x1 (criticValue (launchContents m c)) shapeCasts_S_S1x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c =>
      have e := fun b => congrFun (after_ops_st (launchContents m c)) b
      have k : ∀ a : Ref sig .tc, a ∉ written → r.2.mem ((c.tc : Thread nD τ).loc a) = m ((c.tc : Thread nD τ).loc a) := fun a ha =>
        (h c a).trans ((e (Proc.devRef .tc a)).trans (kept13 (launchContents m c) a ha))
      ⟨(h c main_v66).trans ((e _).trans (at_v66 (launchContents m c))),
       (h c main_v67).trans ((e _).trans (at_v67 (launchContents m c))),
       (h c main_v68).trans ((e _).trans (at_v68 (launchContents m c))),
       k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide), k main_arg17 (by decide), k main_arg18 (by decide), k main_arg19 (by decide), k main_arg20 (by decide), k main_arg21 (by decide), k main_arg22 (by decide), k main_arg23 (by decide)⟩)
    (run_seq scopedRefs_eq scopedSems_eq defs main (fun _ => ops) main_eq (fun _ => ops_sub) m ρ fun _ => ops_fresh)

end Cert.ReferenceIdeal.Hand
-- ==== Proof.RefLayers.lean ====
module

public import proofs.«01_k».proof.Proof.RefRun
public import proofs.«01_k».proof.Proof.Softmax

/-!
The reference's values over the extended reals: each stage read at an index is the network's function there.
-/

@[expose] public section

set_option maxRecDepth 16384

noncomputable section

namespace Cert.ReferenceIdeal.Hand

open Cert.ReferenceIdeal Cert.ReferenceIdeal.Gen Idealize.ShloMosaic Cert.Net

theorem act_apply (s : Shape) (h : S_.BroadcastsInDim s (![] : Fin 0 → Fin s.rank)) (x : Arr Ideal s .f32) (j : s.Idx) :
    act s h x j = elu (x j) := by
  have z : (Ideal.ofBits .f32 0x00000000#32 : EReal) = 0 := by simp [Ideal.ofBits, Ideal.ieee]
  have o : (Ideal.ofBits .f32 0x3F800000#32 : EReal) = 1 := by
    simp [Ideal.ofBits, Ideal.ieee, -EReal.coe_mul]
    norm_num
  have e : act s h x j = Scalar.select (Ideal.cmp .ogt (x j) (Ideal.ofBits .f32 0x00000000#32)) (x j)
      (Ideal.ofBits .f32 0x3F800000#32 * (Ideal.exp (Scalar.select (Ideal.cmp .ogt (x j) (Ideal.ofBits .f32 0x00000000#32))
        (Ideal.ofBits .f32 0x00000000#32) (x j)) - 1)) := rfl
  rw [e, z, o, one_mul]
  unfold elu Scalar.select Ideal.cmp
  by_cases p : (0 : EReal) < x j <;> simp [p]

theorem craneLayer_apply (x : Arr Ideal S32x128 .f32) (W : Arr Ideal S128x128 .f32) (b : Arr Ideal S128 .f32) (i : Fin 32) (j : Fin 128) :
    craneLayer x W b (ix2 i j) = layer (fun i k => x (ix2 i k)) (fun k j => W (ix2 k j)) (fun j => b (ix1 j)) i j := by
  unfold craneLayer
  rw [act_apply]
  pointwise
  rfl

theorem pileLayer_apply (x : Arr Ideal S2048x128 .f32) (W : Arr Ideal S128x128 .f32) (b : Arr Ideal S128 .f32) (i : Fin 2048) (j : Fin 128) :
    pileLayer x W b (ix2 i j) = layer (fun i k => x (ix2 i k)) (fun k j => W (ix2 k j)) (fun j => b (ix1 j)) i j := by
  unfold pileLayer
  rw [act_apply]
  pointwise
  rfl

theorem pairLayer_apply (x : Arr Ideal S2048x32x256 .f32) (W : Arr Ideal S256x256 .f32) (b : Arr Ideal S256 .f32) (p : Fin 2048) (c : Fin 32) (j : Fin 256) :
    pairLayer x W b (ix3 p c j) = layer (fun c k => x (ix3 p c k)) (fun k j => W (ix2 k j)) (fun j => b (ix1 j)) c j := by
  unfold pairLayer
  rw [act_apply]
  pointwise
  rfl

theorem firstPair_apply (hc : Arr Ideal S32x128 .f32) (hp : Arr Ideal S2048x128 .f32) (W : Arr Ideal S256x256 .f32) (b : Arr Ideal S256 .f32)
    (p : Fin 2048) (c : Fin 32) (j : Fin 256) :
    pairLayer (pairs hc hp) W b (ix3 p c j) = elu (((∑ k, hc (ix2 c k) * W (ix2 (⟨k.val, by omega⟩ : Fin 256) j))
      + ∑ k, hp (ix2 p k) * W (ix2 (⟨128 + k.val, by omega⟩ : Fin 256) j)) + b (ix1 j)) := by
  unfold pairLayer
  rw [act_apply]
  pointwise [pairs, joinPairs]

theorem logits_apply (x : Arr Ideal S2048x32x256 .f32) (W : Arr Ideal S256x1 .f32) (b : Arr Ideal S1 .f32) (mask : Arr Ideal S32x2048 .i1)
    (p : Fin 2048) (c : Fin 32) :
    logits x W b mask (ix1 (flat (p, c))) = if mask (ix2 c p) = 1#1 then (∑ k, x (ix3 p c k) * W (ix2 k 0)) + b (ix1 0) else ⊥ := by
  have n : (Ideal.ofBits .f32 0xFF800000#32 : EReal) = ⊥ := by simp [Ideal.ofBits, Ideal.ieee]
  have e : logits x W b mask (ix1 (⟨p.val * 32 + c.val, by omega⟩ : Fin 65536))
      = Scalar.select (mask (ix2 c p)) ((∑ k, x (ix3 p c k) * W (ix2 k 0)) + b (ix1 0)) (Ideal.ofBits .f32 0xFF800000#32) := by
    pointwise [logits]
    rfl
  refine e.trans ?_
  rw [n]
  rfl

theorem means_apply (hc : Arr Ideal S32x128 .f32) (hp : Arr Ideal S2048x128 .f32) (k : Fin 256) :
    means hc hp (ix1 k) = if h : k.val < 128 then Ideal.div (∑ c, hc (ix2 c (⟨k.val, h⟩ : Fin 128))) (Ideal.ofBits .f32 0x42000000#32)
      else Ideal.div (∑ p, hp (ix2 p (⟨k.val - 128, by omega⟩ : Fin 128))) (Ideal.ofBits .f32 0x45000000#32) := by
  pointwise [means, joinMeans]

theorem criticLayer_apply (x : Arr Ideal S256 .f32) (W : Arr Ideal S256x256 .f32) (b : Arr Ideal S256 .f32) (j : Fin 256) :
    criticLayer x W b (ix1 j) = layer (fun _ : Fin 1 => fun k => x (ix1 k)) (fun k j => W (ix2 k j)) (fun j => b (ix1 j)) 0 j := by
  unfold criticLayer
  rw [act_apply]
  pointwise
  rfl

theorem criticOut_apply (x : Arr Ideal S256 .f32) (W : Arr Ideal S256x1 .f32) (b : Arr Ideal S1 .f32) (j : S_.Idx) :
    criticOut x W b j = (∑ k, x (ix1 k) * W (ix2 k 0)) + b (ix1 0) := by
  pointwise [criticOut]

end Cert.ReferenceIdeal.Hand
-- ==== Proof.RefMath.lean ====
module

public import proofs.«01_k».proof.Proof.RefLayers
public import proofs.«01_k».proof.Proof.Softmax

/-!
The reference's values over the extended reals: the log-probabilities, the chosen pair and the critic's value are the network's.
-/

@[expose] public section

set_option maxRecDepth 16384

noncomputable section

namespace Cert.ReferenceIdeal.Hand

open Idealize.SL.Sem Cert.ReferenceIdeal Cert.ReferenceIdeal.Gen Idealize.ShloMosaic Cert.Net

/-! ## The network's inputs and parameters, from the reference's argument arrays -/

variable (V : Valuation τ sig (Elt Ideal))

/-- The arrays the reference reads, as the network's inputs and parameters. -/
def params : Params where
  crane i k := (V (Proc.devRef .tc main_arg0) : Arr Ideal S32x128 .f32) (ix2 i k)
  pile i k := (V (Proc.devRef .tc main_arg1) : Arr Ideal S2048x128 .f32) (ix2 i k)
  allowed p c := (V (Proc.devRef .tc main_arg2) : Arr Ideal S32x2048 .i1) (ix2 c p) = 1#1
  Wc0 i k := (V (Proc.devRef .tc main_arg4) : Arr Ideal S128x128 .f32) (ix2 i k)
  bc0 k := (V (Proc.devRef .tc main_arg5) : Arr Ideal S128 .f32) (ix1 k)
  Wc1 i k := (V (Proc.devRef .tc main_arg6) : Arr Ideal S128x128 .f32) (ix2 i k)
  bc1 k := (V (Proc.devRef .tc main_arg7) : Arr Ideal S128 .f32) (ix1 k)
  Wp0 i k := (V (Proc.devRef .tc main_arg8) : Arr Ideal S128x128 .f32) (ix2 i k)
  bp0 k := (V (Proc.devRef .tc main_arg9) : Arr Ideal S128 .f32) (ix1 k)
  Wp1 i k := (V (Proc.devRef .tc main_arg10) : Arr Ideal S128x128 .f32) (ix2 i k)
  bp1 k := (V (Proc.devRef .tc main_arg11) : Arr Ideal S128 .f32) (ix1 k)
  A0 i k := (V (Proc.devRef .tc main_arg12) : Arr Ideal S256x256 .f32) (ix2 i k)
  A0b k := (V (Proc.devRef .tc main_arg13) : Arr Ideal S256 .f32) (ix1 k)
  A1 i k := (V (Proc.devRef .tc main_arg14) : Arr Ideal S256x256 .f32) (ix2 i k)
  A1b k := (V (Proc.devRef .tc main_arg15) : Arr Ideal S256 .f32) (ix1 k)
  A2 k := (V (Proc.devRef .tc main_arg16) : Arr Ideal S256x1 .f32) (ix2 k 0)
  A2b := (V (Proc.devRef .tc main_arg17) : Arr Ideal S1 .f32) (ix1 0)
  C0 i k := (V (Proc.devRef .tc main_arg18) : Arr Ideal S256x256 .f32) (ix2 i k)
  C0b k := (V (Proc.devRef .tc main_arg19) : Arr Ideal S256 .f32) (ix1 k)
  C1 i k := (V (Proc.devRef .tc main_arg20) : Arr Ideal S256x256 .f32) (ix2 i k)
  C1b k := (V (Proc.devRef .tc main_arg21) : Arr Ideal S256 .f32) (ix1 k)
  C2 k := (V (Proc.devRef .tc main_arg22) : Arr Ideal S256x1 .f32) (ix2 k 0)
  C2b := (V (Proc.devRef .tc main_arg23) : Arr Ideal S1 .f32) (ix1 0)

theorem craneFeatures_apply (i : Fin 32) (j : Fin 128) : craneFeatures V (ix2 i j) = (params V).hc i j := by
  unfold craneFeatures
  rw [craneLayer_apply]
  simp only [craneLayer_apply]
  rfl

theorem pileFeatures_apply (i : Fin 2048) (j : Fin 128) : pileFeatures V (ix2 i j) = (params V).hp i j := by
  unfold pileFeatures
  rw [pileLayer_apply]
  simp only [pileLayer_apply]
  rfl

theorem criticValue_apply (j : S_.Idx) : criticValue V j = (params V).value := by
  unfold criticValue
  rw [criticOut_apply]
  simp only [criticLayer_apply, means_apply, craneFeatures_apply, pileFeatures_apply]
  rfl

/-- The scores, with the last bias, `⊥` at the forbidden pairs. -/
def scores : Arr Ideal S65536 .f32 :=
  logits (pairLayer (pairLayer (pairs (craneFeatures V) (pileFeatures V)) (V (Proc.devRef .tc main_arg12)) (V (Proc.devRef .tc main_arg13)))
    (V (Proc.devRef .tc main_arg14)) (V (Proc.devRef .tc main_arg15))) (V (Proc.devRef .tc main_arg16)) (V (Proc.devRef .tc main_arg17)) (V (Proc.devRef .tc main_arg2))

theorem scores_apply (p : Fin 2048) (c : Fin 32) : scores V (ix1 (flat (p, c))) = (params V).masked p c + (params V).A2b := by
  have t : (∑ k, pairLayer (pairLayer (pairs (craneFeatures V) (pileFeatures V)) (V (Proc.devRef .tc main_arg12)) (V (Proc.devRef .tc main_arg13)))
      (V (Proc.devRef .tc main_arg14)) (V (Proc.devRef .tc main_arg15)) (ix3 p c k) * (V (Proc.devRef .tc main_arg16) : Arr Ideal S256x1 .f32) (ix2 k 0))
      = (params V).score p c := by
    refine Finset.sum_congr rfl fun k _ => ?_
    rw [pairLayer_apply]
    simp only [firstPair_apply, craneFeatures_apply, pileFeatures_apply]
    rfl
  refine (logits_apply _ _ _ _ p c).trans ?_
  rw [t]
  unfold Params.masked
  by_cases a : (params V).allowed p c
  · have a' : (V (Proc.devRef .tc main_arg2) : Arr Ideal S32x2048 .i1) (ix2 c p) = 1#1 := a
    rw [if_pos a, if_pos a']
    rfl
  · have a' : ¬ (V (Proc.devRef .tc main_arg2) : Arr Ideal S32x2048 .i1) (ix2 c p) = 1#1 := a
    rw [if_neg a, if_neg a', EReal.bot_add]

/-! ## The softmax -/

theorem centred_apply (l : Arr Ideal S65536 .f32) (n : Fin 65536) :
    centred l (ix1 n) = l (ix1 n) - Finset.univ.sup fun k : Fin 65536 => l (ix1 k) := by
  have b : (Ideal.ofBits .f32 0xFF800000#32 : EReal) = ⊥ := by simp [Ideal.ofBits, Ideal.ieee]
  pointwise [centred]
  rw [b, bot_sup_eq]
  rfl

theorem logSoftmax_apply (l : Arr Ideal S65536 .f32) (n : Fin 65536) :
    logSoftmax l (ix1 n) = centred l (ix1 n) - Ideal.log (∑ k, Ideal.exp (centred l (ix1 k))) := by
  pointwise [logSoftmax]

omit V in
theorem sum_pairs (f : Fin 65536 → EReal) : (∑ n, f n) = ∑ p, ∑ c, f (flat (p, c)) :=
  (flatEquiv.sum_comp f).symm.trans (Fintype.sum_prod_type fun q => f (flat q))

variable (ok : (params V).Ok)
include ok

theorem sup_scores : (Finset.univ.sup fun k : Fin 65536 => scores V (ix1 k)) = (params V).top + (params V).A2b := by
  apply le_antisymm
  · refine Finset.sup_le fun n _ => ?_
    obtain ⟨q, rfl⟩ : ∃ q, flat q = n := flatEquiv.surjective n
    exact (scores_apply V q.1 q.2).trans_le (add_le_add_left (Params.masked_le_top q) _)
  · obtain ⟨q, e⟩ := Params.top_attained (P := params V)
    rw [← e, ← scores_apply]
    exact le_sup_all (fun k : Fin 65536 => scores V (ix1 k)) (flat q)

theorem centred_eq (p : Fin 2048) (c : Fin 32) : centred (scores V) (ix1 (flat (p, c))) = (params V).masked p c - (params V).top := by
  rw [centred_apply, sup_scores V ok, scores_apply]
  obtain ⟨t, ht⟩ := Params.top_real ok
  obtain ⟨b, hb⟩ := ok.A2b
  rcases Params.masked_cases ok p c with e | ⟨a, e⟩
  · rw [e, EReal.bot_add, EReal.bot_sub, EReal.bot_sub]
  · rw [e, ht, hb, ← EReal.coe_add, ← EReal.coe_add, ← EReal.coe_sub, ← EReal.coe_sub, add_sub_add_right_eq_sub]

theorem logProbs_eq (q : Fin 2048 × Fin 32) : logProbs V (ix1 (flat q)) = (params V).logp q.1 q.2 := by
  have s : (∑ k, Ideal.exp (centred (scores V) (ix1 k))) = (params V).mass := by
    refine (sum_pairs _).trans ?_
    exact Finset.sum_congr rfl fun p _ => Finset.sum_congr rfl fun c _ => congrArg Ideal.exp (centred_eq V ok p c)
  refine (logSoftmax_apply (scores V) (flat q)).trans ?_
  rw [s, centred_eq V ok q.1 q.2]
  rfl

/-! ## The chosen pair -/

omit ok in
/-- `q` comes no earlier than `r` in the order of the choice: a larger value first, then a smaller index. -/
def Upto (q r : Ideal .f32 × BitVec 32) : Prop :=
  (q.1 : EReal) < r.1 ∨ ((q.1 : EReal) = r.1 ∧ r.2.toInt ≤ q.2.toInt)

omit V ok in
theorem Upto.refl (q : Ideal .f32 × BitVec 32) : Upto q q := .inr ⟨rfl, le_rfl⟩

omit V ok in
theorem Upto.trans {q r s : Ideal .f32 × BitVec 32} : Upto q r → Upto r s → Upto q s
  | .inl a, .inl b => .inl (lt_trans a b)
  | .inl a, .inr b => .inl (b.1 ▸ a)
  | .inr a, .inl b => .inl (a.1 ▸ b)
  | .inr a, .inr b => .inr ⟨a.1.trans b.1, b.2.trans a.2⟩

omit V ok in
theorem reducer_spec (a b : Ideal .f32 × BitVec 32) :
    (reducer_argmax_f32_i32 a b = a ∨ reducer_argmax_f32_i32 a b = b) ∧ Upto a (reducer_argmax_f32_i32 a b) ∧ Upto b (reducer_argmax_f32_i32 a b) := by
  obtain ⟨x, i⟩ := a
  obtain ⟨y, j⟩ := b
  have e : reducer_argmax_f32_i32 (F := Ideal) (x, i) (y, j) = if (y : EReal) < x then (x, i) else if (x : EReal) = y ∧ i.toInt < j.toInt then (x, i) else (y, j) := by
    unfold reducer_argmax_f32_i32
    rcases lt_trichotomy (x : EReal) y with h | h | h
    · simp [Ideal.cmpf_def, Ideal.cmp, Scalar.select, IntOp.ori, IntOp.andi, IntOp.cmpi, h, h.not_gt, h.ne]
    · subst h
      by_cases k : i.toInt < j.toInt <;> simp [Ideal.cmpf_def, Ideal.cmp, Scalar.select, IntOp.ori, IntOp.andi, IntOp.cmpi, k, BitVec.slt]
    · simp [Ideal.cmpf_def, Ideal.cmp, Scalar.select, IntOp.ori, IntOp.andi, IntOp.cmpi, h, h.ne']
  rw [e]
  split
  · rename_i h
    exact ⟨.inl rfl, .refl _, .inl h⟩
  · rename_i h
    split
    · rename_i k
      exact ⟨.inl rfl, .refl _, .inr ⟨k.1.symm, k.2.le⟩⟩
    · rename_i k
      refine ⟨.inr rfl, ?_, .refl _⟩
      rcases (not_lt.mp h).lt_or_eq with l | l
      · exact .inl l
      · exact .inr ⟨l, not_lt.mp fun m => k ⟨l, m⟩⟩

omit V ok in
theorem foldl_spec (L : List (Ideal .f32 × BitVec 32)) : ∀ a : Ideal .f32 × BitVec 32,
    (L.foldl reducer_argmax_f32_i32 a = a ∨ L.foldl reducer_argmax_f32_i32 a ∈ L) ∧ Upto a (L.foldl reducer_argmax_f32_i32 a)
      ∧ ∀ q ∈ L, Upto q (L.foldl reducer_argmax_f32_i32 a) := by
  induction L with
  | nil => exact fun a => ⟨.inl rfl, .refl a, by simp⟩
  | cons b L ih =>
    intro a
    have ⟨c1, c2, c3⟩ := reducer_spec a b
    have ⟨i1, i2, i3⟩ := ih (reducer_argmax_f32_i32 a b)
    rw [List.foldl_cons]
    refine ⟨?_, c2.trans i2, fun q hq => ?_⟩
    · rcases i1 with e | m
      · rw [e]
        rcases c1 with c | c
        · exact .inl c
        · exact .inr (by rw [c]; exact List.mem_cons_self)
      · exact .inr (List.mem_cons_of_mem _ m)
    · rcases List.mem_cons.mp hq with rfl | m
      · exact c3.trans i2
      · exact i3 q m

/-- The reference chooses the first pair with the largest score. -/
theorem best_eq : ∃ q : Fin 2048 × Fin 32, (params V).masked q.1 q.2 = (params V).top
    ∧ (∀ q' : Fin 2048 × Fin 32, (params V).masked q'.1 q'.2 = (params V).top → q.1.val * 32 + q.2.val ≤ q'.1.val * 32 + q'.2.val)
    ∧ best (logProbs V) = fun _ => BitVec.ofNat 32 (q.1.val * 32 + q.2.val) := by
  let L := Host.argReduceFiber (logProbs V) (iotaInDim S65536 32 0) reducesTo_S65536_S_d0 ix0
  let z : Ideal .f32 × BitVec 32 := (Ideal.ofBits .f32 0xFF800000#32, 0#32)
  have b : (Ideal.ofBits .f32 0xFF800000#32 : EReal) = ⊥ := by simp [Ideal.ofBits, Ideal.ieee]
  have hb : best (logProbs V) = fun _ => (L.foldl reducer_argmax_f32_i32 z).2 := by
    funext j
    obtain rfl : j = ix0 := funext fun a => a.elim0
    unfold best
    rw [Ideal.argReduce_eq_reduce2, Host.reduce2_eq_foldl_fiber]
    rfl
  have mem (q : Fin 2048 × Fin 32) : ((logProbs V (ix1 (flat q)), BitVec.ofNat 32 (q.1.val * 32 + q.2.val)) : Ideal .f32 × BitVec 32) ∈ L := by
    refine List.mem_map.mpr ⟨S65536.rowMajor (ix1 (flat q)), List.mem_filter.mpr ⟨List.mem_finRange _, ?_⟩, ?_⟩
    · exact decide_eq_true (funext fun a => a.elim0)
    · rw [Equiv.symm_apply_apply]
      rfl
  have of_mem (r : Ideal .f32 × BitVec 32) (hr : r ∈ L) : ∃ q : Fin 2048 × Fin 32, r = (logProbs V (ix1 (flat q)), BitVec.ofNat 32 (q.1.val * 32 + q.2.val)) := by
    obtain ⟨n, _, rfl⟩ := List.mem_map.mp hr
    obtain ⟨i, hi⟩ : ∃ i, S65536.rowMajor.symm n = i := ⟨_, rfl⟩
    obtain ⟨q, hq⟩ : ∃ q, flat q = i 0 := flatEquiv.surjective (i 0)
    have e : i = ix1 (flat q) := by
      funext a
      match a with
      | ⟨0, _⟩ => exact hq.symm
    rw [hi, e]
    exact ⟨q, rfl⟩
  have ⟨h1, _, h3⟩ := foldl_spec L z
  rw [hb]
  generalize L.foldl reducer_argmax_f32_i32 z = r at h1 h3 ⊢
  have up (q : Fin 2048 × Fin 32) := h3 _ (mem q)
  have le (q : Fin 2048 × Fin 32) : (params V).logp q.1 q.2 ≤ r.1 := by
    rw [← logProbs_eq V ok]
    exact (up q).elim (fun h => h.le) fun h => h.1.le
  have hr : r ∈ L := by
    refine h1.resolve_left fun e => ?_
    obtain ⟨q, hq⟩ := Params.bot_lt_logp_top ok
    have := le q
    rw [e] at this
    exact absurd (hq.trans_le this) (by rw [show z.1 = (⊥ : EReal) from b]; exact lt_irrefl _)
  obtain ⟨q, rfl⟩ := of_mem r hr
  have t : (params V).masked q.1 q.2 = (params V).top := by
    refine Params.top_of_logp ok fun p' c' => ?_
    rw [← logProbs_eq V ok q]
    exact le (p', c')
  refine ⟨q, t, fun q' t' => ?_, rfl⟩
  have same : (logProbs V (ix1 (flat q')) : EReal) = logProbs V (ix1 (flat q)) := by
    rw [logProbs_eq V ok, logProbs_eq V ok]
    exact Params.logp_congr (t'.trans t.symm)
  have := (up q').resolve_left (fun h => absurd same h.ne)
  have := this.2
  rw [toInt_flat, toInt_flat] at this
  exact_mod_cast this

end Cert.ReferenceIdeal.Hand
-- ==== Proof.RefEntry.lean ====
module

public import proofs.«01_k».proof.Proof.RefLayers
public import proofs.«01_k».proof.Proof.Softmax

/-!
The entry of a line that the reference reads at a word holding an entry's number.
-/

@[expose] public section

set_option maxHeartbeats 4000000
set_option maxRecDepth 16384

noncomputable section

namespace Cert.ReferenceIdeal.Hand

open Cert.ReferenceIdeal Cert.ReferenceIdeal.Gen Cert.Net Idealize.ShloMosaic

theorem clamped (w : BitVec 32) (n : Nat) (t : w.toInt = n) (l : n + 1 ≤ 65536) (h : S1.rank = S65536.rank) :
    Host.clampedStart S65536 S1 h (fun _ => w.toInt) 0 = n :=
  Host.clampedStart_of_le _ _ _ _ t l

theorem entryAt_word (l : Arr Ideal S65536 .f32) (w : BitVec 32) (n : Fin 65536) (t : w.toInt = n.val) (j : S_.Idx) :
    entryAt l (fun _ => w) j = l (ix1 n) := by
  have i : IntOp.cmpi CmpIPredicate.slt w 0#32 = 0#1 := by
    have n : ¬ w.toInt < 0 := by rw [t]; omega
    simp [IntOp.cmpi, BitVec.slt, n]
  pointwise [entryAt]
  simp only [i]
  refine congrArg (fun k => l (ix1 k)) (Fin.ext ?_)
  exact clamped w n.val t (Nat.succ_le_of_lt n.isLt) rfl

theorem entryAt_apply (l : Arr Ideal S65536 .f32) (q : Fin 2048 × Fin 32) (j : S_.Idx) :
    entryAt l (fun _ => BitVec.ofNat 32 (q.1.val * 32 + q.2.val)) j = l (ix1 (flat q)) :=
  entryAt_word l _ (flat q) (toInt_flat q) j

end Cert.ReferenceIdeal.Hand
-- ==== Proof.Agree.lean ====
module

public import proofs.«01_k».proof.Proof.PreFacts
public import proofs.«01_k».proof.Proof.RefRun
public import proofs.«01_k».proof.Proof.RefMath
public import proofs.«01_k».proof.Proof.RefEntry
public import proofs.«01_k».proof.Proof.ExactValue
public import Idealize.ShloMosaic.Lib.Quiescent

/-!
The kernel and the reference leave equal results: both compute the network over the same inputs and parameters.
-/

@[expose] public section

set_option maxHeartbeats 4000000
set_option maxRecDepth 16384

noncomputable section

namespace Cert.Hand

open Cert.Net Idealize.ShloMosaic Idealize.ShloMosaic.TcCoe Idealize.SL.Sem Idealize.ShloMosaic.StableHlo

/-- A memory of the kernel. -/
abbrev KMem := ((ℓ : Loc Cert.KernelIdeal.nD Cert.KernelIdeal.τ Cert.KernelIdeal.sig) → Buf (Elt Ideal) ℓ)
/-- A memory of the reference. -/
abbrev RMem := ((ℓ : Loc Cert.ReferenceIdeal.nD Cert.ReferenceIdeal.τ Cert.ReferenceIdeal.sig) → Buf (Elt Ideal) ℓ)

/-- Two memories that agree on the arguments hold the same network. -/
theorem params_eq (m : KMem) (m' : RMem) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.Hand.params (launchContents m' c) = Cert.KernelIdeal.Hand.params m c := by
  obtain ⟨h0, h1, h2, h3, h4, h5, h6, h7, h8, h9, h10, h11, h12, h13, h14, h15, h16, h17, h18, h19, h20, h21, h22, h23⟩ := h
  unfold Cert.ReferenceIdeal.Hand.params Cert.KernelIdeal.Hand.params
  congr 1
  · exact funext fun i => funext fun k => congrFun h0 (ix2 i k)
  · exact funext fun i => funext fun k => congrFun h1 (ix2 i k)
  · exact funext fun p => funext fun c' => congrArg (· = 1#1) (congrFun h2 (ix2 c' p))
  · exact funext fun i => funext fun k => congrFun h4 (ix2 i k)
  · exact funext fun k => congrFun h5 (ix1 k)
  · exact funext fun i => funext fun k => congrFun h6 (ix2 i k)
  · exact funext fun k => congrFun h7 (ix1 k)
  · exact funext fun i => funext fun k => congrFun h8 (ix2 i k)
  · exact funext fun k => congrFun h9 (ix1 k)
  · exact funext fun i => funext fun k => congrFun h10 (ix2 i k)
  · exact funext fun k => congrFun h11 (ix1 k)
  · exact funext fun i => funext fun k => congrFun h12 (ix2 i k)
  · exact funext fun k => congrFun h13 (ix1 k)
  · exact funext fun i => funext fun k => congrFun h14 (ix2 i k)
  · exact funext fun k => congrFun h15 (ix1 k)
  · exact funext fun k => congrFun h16 (ix2 k 0)
  · exact congrFun h17 (ix1 0)
  · exact funext fun i => funext fun k => congrFun h18 (ix2 i k)
  · exact funext fun k => congrFun h19 (ix1 k)
  · exact funext fun i => funext fun k => congrFun h20 (ix2 i k)
  · exact funext fun k => congrFun h21 (ix1 k)
  · exact funext fun k => congrFun h22 (ix2 k 0)
  · exact congrFun h23 (ix1 0)

section
variable (m : KMem) (m' : RMem) (c : Dev Cert.KernelIdeal.nD)
  (ok : (Cert.KernelIdeal.Hand.params m c).Ok)
  (e : Cert.ReferenceIdeal.Hand.params (launchContents m' c) = Cert.KernelIdeal.Hand.params m c)
include ok e

theorem action_eq (j : Cert.ReferenceIdeal.S1x1.Idx) :
    shapeCast Cert.ReferenceIdeal.S1x1 (Cert.ReferenceIdeal.Hand.best (Cert.ReferenceIdeal.Hand.logProbs (launchContents m' c))) Cert.ReferenceIdeal.Gen.shapeCasts_S_S1x1 j
      = Cert.KernelIdeal.Hand.chosen (Cert.KernelIdeal.Hand.ins m c) := by
  have ok' : (Cert.ReferenceIdeal.Hand.params (launchContents m' c)).Ok := e ▸ ok
  obtain ⟨q, t, f, b⟩ := Cert.ReferenceIdeal.Hand.best_eq (launchContents m' c) ok'
  rw [b, Cert.KernelIdeal.Hand.chosen_eq (Cert.KernelIdeal.Hand.reads m c), ← e, fold_eq_first _ q t f]
  rfl

theorem logp_eq (j : Cert.ReferenceIdeal.S1x1.Idx) :
    shapeCast Cert.ReferenceIdeal.S1x1 (Cert.ReferenceIdeal.Hand.entryAt (Cert.ReferenceIdeal.Hand.logProbs (launchContents m' c))
        (Cert.ReferenceIdeal.Hand.best (Cert.ReferenceIdeal.Hand.logProbs (launchContents m' c)))) Cert.ReferenceIdeal.Gen.shapeCasts_S_S1x1 j
      = Cert.KernelIdeal.Gen.k0_pay13 (Cert.KernelIdeal.Hand.total (Cert.KernelIdeal.Hand.ins m c)) := by
  have ok' : (Cert.ReferenceIdeal.Hand.params (launchContents m' c)).Ok := e ▸ ok
  obtain ⟨q, t, f, b⟩ := Cert.ReferenceIdeal.Hand.best_eq (launchContents m' c) ok'
  rw [b, Cert.KernelIdeal.Hand.logp_eq (Cert.KernelIdeal.Hand.reads m c), ← e]
  unfold shapeCast
  rw [Cert.ReferenceIdeal.Hand.entryAt_apply, Cert.ReferenceIdeal.Hand.logProbs_eq _ ok', Params.logp_top ok' t]
  rfl

omit ok in
theorem value_eq (j : Cert.ReferenceIdeal.S1x1.Idx) :
    shapeCast Cert.ReferenceIdeal.S1x1 (Cert.ReferenceIdeal.Hand.criticValue (launchContents m' c)) Cert.ReferenceIdeal.Gen.shapeCasts_S_S1x1 j
      = Cert.KernelIdeal.Hand.critic (Cert.KernelIdeal.Hand.ins m c) := by
  rw [Cert.KernelIdeal.Hand.critic_eq (Cert.KernelIdeal.Hand.reads m c), ← e]
  unfold shapeCast
  rw [Cert.ReferenceIdeal.Hand.criticValue_apply]
end

theorem reference_frame : Cert.quiescent_ReferenceIdeal := fun m g _ =>
  (θ_run _ _ _).mono (fun r h => ⟨fun c => (h c).2.2.2, sem_eq_zero_of_no_sems (by decide) r.2⟩) (Cert.ReferenceIdeal.Hand.run m g)

theorem algebraic : Cert.algebraic_KernelIdeal_ReferenceIdeal_pre_finite_and_allowed := fun m g m' g' hpre hag =>
  ⟨fun c _ => Cert.KernelIdeal.Hand.chosen (Cert.KernelIdeal.Hand.ins m c),
   fun c _ => Cert.KernelIdeal.Gen.k0_pay13 (Cert.KernelIdeal.Hand.total (Cert.KernelIdeal.Hand.ins m c)),
   fun c _ => Cert.KernelIdeal.Hand.critic (Cert.KernelIdeal.Hand.ins m c),
   (θ_run _ _ _).mono (fun r h c => ⟨(h c).1.trans (Cert.KernelIdeal.Hand.final24 m c), (h c).2.1.trans (Cert.KernelIdeal.Hand.final25 m c),
      (h c).2.2.1.trans (Cert.KernelIdeal.Hand.final26 m c), (h c).2.2.2⟩) (Cert.KernelIdeal.Value.run_blocks m g),
   (θ_run _ _ _).mono (fun r h c => ⟨
      (h c).1.trans (funext (action_eq m m' c (Cert.KernelIdeal.Hand.params_ok m c hpre) (params_eq m m' c (hag c)))),
      (h c).2.1.trans (funext (logp_eq m m' c (Cert.KernelIdeal.Hand.params_ok m c hpre) (params_eq m m' c (hag c)))),
      (h c).2.2.1.trans (funext (value_eq m m' c (params_eq m m' c (hag c)))), (h c).2.2.2⟩) (Cert.ReferenceIdeal.Hand.run m' g')⟩

end Cert.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.WordFrame
public import proofs.«01_k».proof.Proof.ExactFrame
public import proofs.«01_k».proof.Proof.Agree
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_and_allowed.Hand.facts,
    fun m g _ => Cert.Kernel.Gen.frame m g, fun m g _ => Cert.KernelIdeal.Gen.frame m g, fun m g _ => Cert.KernelIdeal.Gen.frame m g,
    Cert.Hand.reference_frame, fun m g _ => Cert.Hand.reference_frame m g trivial,
    IdealRules.named_const.statement Cert.KernelIdeal.κ "masked" .f32 0xF149F2CA#32 ⊥ rfl, Cert.Hand.algebraic⟩

end Cert.Proof

end
